-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩
abbrev S2x128x4x64 : Shape := ⟨4, ![2, 128, 4, 64]⟩
abbrev S2x4x128x64 : Shape := ⟨4, ![2, 4, 128, 64]⟩
abbrev S32x32x512 : Shape := ⟨3, ![32, 32, 512]⟩
abbrev S8x32x512 : Shape := ⟨3, ![8, 32, 512]⟩
abbrev S16 : Shape := ⟨1, ![16]⟩
abbrev S8 : Shape := ⟨1, ![8]⟩
abbrev S256x256 : Shape := ⟨2, ![256, 256]⟩
abbrev S128x64 : Shape := ⟨2, ![128, 64]⟩
abbrev S1x1x128x64 : Shape := ⟨4, ![1, 1, 128, 64]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S128x256 : Shape := ⟨2, ![128, 256]⟩
abbrev S128x512 : Shape := ⟨2, ![128, 512]⟩
abbrev S32x512 : Shape := ⟨2, ![32, 512]⟩
abbrev S1x32x512 : Shape := ⟨3, ![1, 32, 512]⟩
abbrev S1 : Shape := ⟨1, ![1]⟩

abbrev nBuf : Space → Nat
  | .hbm => 37
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x16x64, .f32⟩
  | .hbm, ⟨3, _⟩ => ⟨S2x128x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .f32⟩
  | .hbm, ⟨33, _⟩ => ⟨S2x4x128x64, .f32⟩
  | .hbm, ⟨34, _⟩ => ⟨S2x4x128x64, .f32⟩
  | .hbm, ⟨35, _⟩ => ⟨S256x512, .f32⟩
  | .hbm, ⟨36, _⟩ => ⟨S2x128x512, .f32⟩
  | .local _ .vmem, ⟨0, _⟩ => ⟨S256x512, .f32⟩
  | .local _ .vmem, ⟨1, _⟩ => ⟨S512x256, .f32⟩
  | .local _ .vmem, ⟨2, _⟩ => ⟨S2x4x128x64, .f32⟩
  | .local _ .vmem, ⟨3, _⟩ => ⟨S2x4x128x64, .f32⟩
  | .local _ .vmem, ⟨4, _⟩ => ⟨S256x512, .f32⟩
  | .local _ .vmem, ⟨5, _⟩ => ⟨S32x32x512, .bf16⟩
  | .local _ .vmem, ⟨6, _⟩ => ⟨S8x32x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_59 : BitVec 32 := 1#32
  let v68 : BitVec 32 := Scalar.muli v3 c1_i32_59
  let v69 : BitVec 32 := Scalar.addi c0_i32_60 v68
  v69.toNat
def k0_dev4 (d0 : Dev nD) : Nat :=
  let c0_i32_71 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_70 : BitVec 32 := 1#32
  let v83 : BitVec 32 := Scalar.muli v4 c1_i32_70
  let v84 : BitVec 32 := Scalar.addi c0_i32_71 v83
  v84.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_80 : BitVec 32 := 1#32
  let v98 : BitVec 32 := Scalar.muli v3 c1_i32_80
  let v99 : BitVec 32 := Scalar.addi c0_i32_81 v98
  v99.toNat
def k0_dev6 (d0 : Dev nD) : Nat :=
  let c0_i32_90 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_89 : BitVec 32 := 1#32
  let v113 : BitVec 32 := Scalar.muli v4 c1_i32_89
  let v114 : BitVec 32 := Scalar.addi c0_i32_90 v113
  v114.toNat
def k0_dev7 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_144 : BitVec 32 := 1#32
  let v174 : BitVec 32 := Scalar.muli v3 c1_i32_144
  let v175 : BitVec 32 := Scalar.addi c0_i32_145 v174
  v175.toNat
def k0_dev8 (d0 : Dev nD) : Nat :=
  let c0_i32_154 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_153 : BitVec 32 := 1#32
  let v189 : BitVec 32 := Scalar.muli v4 c1_i32_153
  let v190 : BitVec 32 := Scalar.addi c0_i32_154 v189
  v190.toNat
def k0_dev9 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_163 : BitVec 32 := 1#32
  let v204 : BitVec 32 := Scalar.muli v3 c1_i32_163
  let v205 : BitVec 32 := Scalar.addi c0_i32_164 v204
  v205.toNat
def k0_dev10 (d0 : Dev nD) : Nat :=
  let c0_i32_173 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_172 : BitVec 32 := 1#32
  let v219 : BitVec 32 := Scalar.muli v4 c1_i32_172
  let v220 : BitVec 32 := Scalar.addi c0_i32_173 v219
  v220.toNat
def k0_dev11 (d0 : Dev nD) : Nat :=
  let c0_i32_202 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_201 : BitVec 32 := 1#32
  let v248 : BitVec 32 := Scalar.muli v4 c1_i32_201
  let v249 : BitVec 32 := Scalar.addi c0_i32_202 v248
  v249.toNat
def k0_dev12 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_227 : BitVec 32 := 1#32
  let v277 : BitVec 32 := Scalar.muli v3 c1_i32_227
  let v278 : BitVec 32 := Scalar.addi c0_i32_228 v277
  v278.toNat
def k0_dev13 (d0 : Dev nD) : Nat :=
  let c0_i32_254 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_253 : BitVec 32 := 1#32
  let v306 : BitVec 32 := Scalar.muli v4 c1_i32_253
  let v307 : BitVec 32 := Scalar.addi c0_i32_254 v306
  v307.toNat
def k0_dev14 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_279 : BitVec 32 := 1#32
  let v335 : BitVec 32 := Scalar.muli v3 c1_i32_279
  let v336 : BitVec 32 := Scalar.addi c0_i32_280 v335
  v336.toNat
def k0_dev15 (d0 : Dev nD) : Nat :=
  let c0_i32_305 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_304 : BitVec 32 := 1#32
  let v364 : BitVec 32 := Scalar.muli v4 c1_i32_304
  let v365 : BitVec 32 := Scalar.addi c0_i32_305 v364
  v365.toNat
def k0_dev16 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_329 : BitVec 32 := 1#32
  let v393 : BitVec 32 := Scalar.muli v3 c1_i32_329
  let v394 : BitVec 32 := Scalar.addi c0_i32_330 v393
  v394.toNat
def k0_dev17 (d0 : Dev nD) : Nat :=
  let c0_i32_355 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_354 : BitVec 32 := 1#32
  let v422 : BitVec 32 := Scalar.muli v4 c1_i32_354
  let v423 : BitVec 32 := Scalar.addi c0_i32_355 v422
  v423.toNat
def k0_dev18 (d0 : Dev nD) : Nat :=
  let c0_i32_380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_379 : BitVec 32 := 1#32
  let v451 : BitVec 32 := Scalar.muli v3 c1_i32_379
  let v452 : BitVec 32 := Scalar.addi c0_i32_380 v451
  v452.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x1024, .f32⟩
  | .hbm, ⟨2, _⟩ => ⟨S2x128x16x64, .f32⟩
  | .hbm, ⟨3, _⟩ => ⟨S2x128x16x64, .f32⟩
  | .hbm, ⟨4, _⟩ => ⟨S1024x512, .f32⟩
  | .hbm, ⟨5, _⟩ => ⟨S2x128x1024, .f32⟩
  | .hbm, ⟨6, _⟩ => ⟨S2x128x16x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S2x16x128x128, .f32⟩
  | .hbm, ⟨19, _⟩ => ⟨S_, .f32⟩
  | .hbm, ⟨20, _⟩ => ⟨S2x16x128x128, .f32⟩
  | .hbm, ⟨21, _⟩ => ⟨S2x16x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S2x16x128x128, .i1⟩
  | .hbm, ⟨26, _⟩ => ⟨S2x16x128x128, .f32⟩
  | .hbm, ⟨27, _⟩ => ⟨S2x16x128x128, .f32⟩
  | .hbm, ⟨28, _⟩ => ⟨S_, .f32⟩
  | .hbm, ⟨29, _⟩ => ⟨S2x16x128, .f32⟩
  | .hbm, ⟨30, _⟩ => ⟨S2x16x128x1, .f32⟩
  | .hbm, ⟨31, _⟩ => ⟨S2x16x128x128, .f32⟩
  | .hbm, ⟨32, _⟩ => ⟨S2x16x128x128, .f32⟩
  | .hbm, ⟨33, _⟩ => ⟨S2x16x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S2x16x128, .f32⟩
  | .hbm, ⟨39, _⟩ => ⟨S2x16x128x1, .f32⟩
  | .hbm, ⟨40, _⟩ => ⟨S_, .f32⟩
  | .hbm, ⟨41, _⟩ => ⟨S_, .f32⟩
  | .hbm, ⟨42, _⟩ => ⟨S2x16x128x1, .i1⟩
  | .hbm, ⟨43, _⟩ => ⟨S2x16x128x1, .f32⟩
  | .hbm, ⟨44, _⟩ => ⟨S2x16x128x1, .f32⟩
  | .hbm, ⟨45, _⟩ => ⟨S2x16x128x128, .f32⟩
  | .hbm, ⟨46, _⟩ => ⟨S2x16x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S2x16x128x128, .i1⟩
  | .hbm, ⟨51, _⟩ => ⟨S2x16x128x128, .f32⟩
  | .hbm, ⟨52, _⟩ => ⟨S2x16x128x128, .f32⟩
  | .hbm, ⟨53, _⟩ => ⟨S2x16x64x128, .f32⟩
  | .hbm, ⟨54, _⟩ => ⟨S2x128x16x64, .f32⟩
  | .hbm, ⟨55, _⟩ => ⟨S2x128x1024, .f32⟩
  | .hbm, ⟨56, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Steps.lean ====
/- The kernel's body as a sequence of a few repeated steps, each stated once for every chunk. -/
module

public import proofs.«01_k».proof.Defs
public import proofs.«01_k».proof.Proof.Gen.KernelIdeal.Skeleton
public import proofs.«01_k».proof.Proof.Gen.KernelIdeal.Launch

@[expose] public section

noncomputable section

namespace Cert.Exchange

open Cert.KernelIdeal Cert.KernelIdeal.Gen
open Idealize.ShloMosaic Idealize.ShloMosaic.TcCoe Idealize.SL.Sem

variable {F : FTy → Type} [FloatOps F]

/-! ## The memory the exchange goes through

The communication buffer has 32 slots of 32 by 512, four per chunk: the chunk's own partial sum, the first partner's,
the own sum of the two, and the second partner's. -/

abbrev commM : Memref sig .tc .vmem S32x32x512 .bf16 := Memref.whole cc0_scratch0
abbrev sumM : Memref sig .tc .vmem S8x32x512 .f32 := Memref.whole cc0_scratch1
abbrev outM : Memref sig .tc .hbm S2x128x512 .f32 := Memref.whole main_v18

theorem slot_inb (k : Fin 32) : ∀ a, (![k.val, 0, 0] : Fin 3 → Nat) a + S1x32x512.size a ≤ S32x32x512.size a := by
  revert k; decide
theorem sum_inb (i : Fin 8) : ∀ a, (![i.val, 0, 0] : Fin 3 → Nat) a + S1x32x512.size a ≤ S8x32x512.size a := by
  revert i; decide
theorem out_inb (i : Fin 8) : ∀ a, (![i.val / 4, 32 * (i.val % 4), 0] : Fin 3 → Nat) a + S1x32x512.size a ≤ S2x128x512.size a := by
  revert i; decide

/-- Slot `k` of the communication buffer. -/
abbrev slotR (k : Fin 32) : Rect S32x32x512 := Rect.unit (s := S32x32x512) ![k.val, 0, 0] S1x32x512.size (slot_inb k)
/-- Slot `i` of the buffer of finished sums. -/
abbrev sumR (i : Fin 8) : Rect S8x32x512 := Rect.unit (s := S8x32x512) ![i.val, 0, 0] S1x32x512.size (sum_inb i)
/-- Chunk `i` of the result: 32 rows of one batch. -/
abbrev outR (i : Fin 8) : Rect S2x128x512 := Rect.unit (s := S2x128x512) ![i.val / 4, 32 * (i.val % 4), 0] S1x32x512.size (out_inb i)

abbrev slotM (k : Fin 32) : Memref sig .tc .vmem S32x512 .bf16 :=
  (commM.slice (slotR k) (fun _ => rfl)).squeeze S32x512 squeezes_S1x32x512_S32x512
abbrev sumSlot (i : Fin 8) : Memref sig .tc .vmem S32x512 .f32 :=
  (sumM.slice (sumR i) (fun _ => rfl)).squeeze S32x512 squeezes_S1x32x512_S32x512
abbrev outSlot (i : Fin 8) : Memref sig .tc .hbm S32x512 .f32 :=
  (outM.slice (outR i) (fun _ => rfl)).squeeze S32x512 squeezes_S1x32x512_S32x512

theorem slot_packed (k : Fin 32) : (slotR k).PackedRows (EltTy.packing .bf16) := by revert k; decide
theorem slot_words (k : Fin 32) : (slotR k).WholeWords (EltTy.packing .bf16) := by revert k; decide
theorem slot_exact (k : Fin 32) : (slotM k).view.WordExact :=
  ((Memref.isWhole_whole cc0_scratch0).wordExact_slice rfl _ (slot_words k)).reshape _ _

/-- The semaphores: 16 for departures, 16 for arrivals, 8 for the copies into the result. -/
abbrev sendS (k : Fin 16) : DmaSem sig := ⟨5 + k.val, by have := k.isLt; show 5 + k.val < 45; omega⟩
abbrev recvS (k : Fin 16) : DmaSem sig := ⟨21 + k.val, by have := k.isLt; show 21 + k.val < 45; omega⟩
abbrev outS (i : Fin 8) : DmaSem sig := ⟨37 + i.val, by have := i.isLt; show 37 + i.val < 45; omega⟩
abbrev barS : Sem sig := sig.barrier 0 rfl

/-- Transfer `k` takes slot `2 k` of its sender to slot `2 k + 1` of its receiver. -/
abbrev own (k : Fin 16) : Fin 32 := ⟨2 * k.val, by omega⟩
abbrev got (k : Fin 16) : Fin 32 := ⟨2 * k.val + 1, by omega⟩
/-- The two transfers of chunk `i`. -/
abbrev fst1 (i : Fin 8) : Fin 16 := ⟨2 * i.val, by omega⟩
abbrev snd2 (i : Fin 8) : Fin 16 := ⟨2 * i.val + 1, by omega⟩

/-! ## The steps -/

/-- A program of the kernel that returns nothing. -/
abbrev Code (F : FTy → Type) := Prog (TpuEff nD τ sig (Elt F) Λ₀ .tc) PUnit

/-- Read slot `k`. -/
abbrev loadSlot (k : Fin 32) (rest : Vec F S1x32x512 .bf16 → Code F) : Code F :=
  .op (.load commM (slotR k).toLoadRect (View.loadsAt_vmem h_S1x32x512)) rest
/-- Write slot `k`. -/
abbrev storeSlot (k : Fin 32) (x : Vec F S1x32x512 .bf16) (rest : PUnit → Code F) : Code F :=
  .op (.store commM (slotR k) x Finset.univ
    (View.stores_vmem h_S1x32x512 ((Memref.isWhole_whole cc0_scratch0).storeExact_slice rfl _ (slot_packed k)) (fun _ => rfl)) (.inl rfl)) rest
/-- Transfer `k` to device `p`. -/
abbrev send (p : Dev nD) (k : Fin 16) (rest : Code F) : Code F :=
  .op (.enqueueDma (slotM (own k)) (.remote (Dev.tc p) (slotM (got k)) (.dma (sendS k))) (.dma (recvS k)) (slot_exact _) (slot_exact _)
    ⟨⟨rfl, Or.inl rfl⟩, trivial⟩) fun _ => rest
/-- Wait for the arrival of transfer `k`. -/
abbrev waitRecv (k : Fin 16) (rest : Code F) : Code F :=
  .op (.waitDma2 (recvS k) (slotM (own k)) (slotM (got k)) (slot_exact _) (slot_exact _)) fun _ => rest
/-- Wait for the departure of transfer `k`. -/
def waitSend (k : Fin 16) (rest : Code F) : Code F :=
  .op (.waitDma2 (sendS k) (slotM (got k)) (slotM (own k)) (slot_exact _) (slot_exact _)) fun _ => rest

/-- The first exchange of chunk `i`: the chunk is put in its slot and sent to the first partner `p`. -/
def step1 (p : Dev nD) (i : Fin 8) (x : Vec F S1x32x512 .bf16) (rest : Code F) : Code F :=
  loadSlot (own (fst1 i)) fun _ => storeSlot (own (fst1 i)) x fun _ => send p (fst1 i) rest

/-- The second exchange of chunk `i`: wait for the first partner's chunk, add it to the own one, send the sum to the
    second partner `p`. -/
def step2 (p : Dev nD) (i : Fin 8) (rest : Code F) : Code F :=
  waitRecv (fst1 i) <| loadSlot (own (fst1 i)) fun x => loadSlot (got (fst1 i)) fun y =>
    loadSlot (own (snd2 i)) fun _ => storeSlot (own (snd2 i)) (k0_pay22 x y) fun _ => send p (snd2 i) rest

/-- The end of chunk `i`: wait for the second partner's sum, add it to the own one, copy the result out. -/
def step3 (i : Fin 8) (rest : Code F) : Code F :=
  waitRecv (snd2 i) <| loadSlot (own (snd2 i)) fun x => loadSlot (got (snd2 i)) fun y =>
    .op (.load sumM (sumR i).toLoadRect (View.loadsAt_vmem h_S1x32x512)) fun _ =>
    .op (.store sumM (sumR i) (k0_pay30 x y) Finset.univ (View.stores_vmem_bits_univ h_S1x32x512 rfl) (.inl rfl)) fun _ =>
    .op (.enqueueDma (sumSlot i) (.here (outSlot i)) (.dma (outS i)) ((View.wordExact_bits rfl).reshape _ _) ((View.wordExact_bits rfl).reshape _ _)
      ⟨Or.inl rfl, trivial⟩) fun _ => rest

/-- Wait for the copy of chunk `i` into the result. -/
def waitOut (i : Fin 8) (rest : Code F) : Code F :=
  .op (.waitDma2 (outS i) (sumSlot i) (outSlot i) ((View.wordExact_bits rfl).reshape _ _) ((View.wordExact_bits rfl).reshape _ _)) fun _ => rest

/-- The devices the body sends chunk `i` to, as the printed body computes them. -/
def dev1 (d : Dev nD) : Fin 8 → Dev nD
  | 0 => ⟨k0_dev3 d, k0_dev3_lt d⟩ | 1 => ⟨k0_dev4 d, k0_dev4_lt d⟩ | 2 => ⟨k0_dev5 d, k0_dev5_lt d⟩ | 3 => ⟨k0_dev6 d, k0_dev6_lt d⟩
  | 4 => ⟨k0_dev7 d, k0_dev7_lt d⟩ | 5 => ⟨k0_dev8 d, k0_dev8_lt d⟩ | 6 => ⟨k0_dev9 d, k0_dev9_lt d⟩ | 7 => ⟨k0_dev10 d, k0_dev10_lt d⟩
def dev2 (d : Dev nD) : Fin 8 → Dev nD
  | 0 => ⟨k0_dev11 d, k0_dev11_lt d⟩ | 1 => ⟨k0_dev12 d, k0_dev12_lt d⟩ | 2 => ⟨k0_dev13 d, k0_dev13_lt d⟩ | 3 => ⟨k0_dev14 d, k0_dev14_lt d⟩
  | 4 => ⟨k0_dev15 d, k0_dev15_lt d⟩ | 5 => ⟨k0_dev16 d, k0_dev16_lt d⟩ | 6 => ⟨k0_dev17 d, k0_dev17_lt d⟩ | 7 => ⟨k0_dev18 d, k0_dev18_lt d⟩

/-- All chunks, the chunks of either batch, and the transfers in the order they are issued. -/
abbrev chunks : List (Fin 8) := [0, 1, 2, 3, 4, 5, 6, 7]
abbrev batch0 : List (Fin 8) := [0, 1, 2, 3]
abbrev batch1 : List (Fin 8) := [4, 5, 6, 7]
abbrev firsts : List (Fin 16) := chunks.map fst1
abbrev seconds : List (Fin 16) := chunks.map snd2

/-- One step after another, for every entry of a list. -/
abbrev each {ι : Type} (step : ι → Code F → Code F) (l : List ι) (rest : Code F) : Code F := l.foldr step rest

/-- What follows the attention of both batches: the second exchange, the sums, the waits. -/
def tail (d : Dev nD) : Code F :=
  each (fun i => step2 (dev2 d i) i) chunks <| each step3 chunks <| each waitOut chunks <| each waitSend firsts <| each waitSend seconds <|
    .ret ⟨⟩

/-- The windows' staging buffers. -/
abbrev xM : Memref sig .tc .vmem S256x512 .f32 := Memref.whole cc0_stg0_0
abbrev wqM : Memref sig .tc .vmem S512x256 .f32 := Memref.whole cc0_stg1_0
abbrev kM : Memref sig .tc .vmem S2x4x128x64 .f32 := Memref.whole cc0_stg2_0
abbrev vM : Memref sig .tc .vmem S2x4x128x64 .f32 := Memref.whole cc0_stg3_0
abbrev woM : Memref sig .tc .vmem S256x512 .f32 := Memref.whole cc0_stg4_0

theorem kv_inb (b : Fin 2) (h : Fin 4) : ∀ a, (![b.val, h.val, 0, 0] : Fin 4 → Nat) a + S1x1x128x64.size a ≤ S2x4x128x64.size a := by
  revert b h; decide
/-- One head of one batch of the keys or of the values. -/
abbrev kvR (b : Fin 2) (h : Fin 4) : Rect S2x4x128x64 := Rect.unit (s := S2x4x128x64) ![b.val, h.val, 0, 0] S1x1x128x64.size (kv_inb b h)

abbrev loadK (b : Fin 2) (h : Fin 4) (rest : Vec F S1x1x128x64 .f32 → Code F) : Code F :=
  .op (.load kM (kvR b h).toLoadRect (View.loadsAt_vmem h_S1x1x128x64)) rest
abbrev loadV (b : Fin 2) (h : Fin 4) (rest : Vec F S1x1x128x64 .f32 → Code F) : Code F :=
  .op (.load vM (kvR b h).toLoadRect (View.loadsAt_vmem h_S1x1x128x64)) rest
abbrev loadX (rest : Vec F S256x512 .f32 → Code F) : Code F :=
  .op (.load xM (Rect.unit (s := S256x512) ![0, 0] S256x512.size inb_S256x512_S256x512_0_0).toLoadRect (View.loadsAt_vmem h_S256x512)) rest
abbrev loadWq (rest : Vec F S512x256 .f32 → Code F) : Code F :=
  .op (.load wqM (Rect.unit (s := S512x256) ![0, 0] S512x256.size inb_S512x256_S512x256_0_0).toLoadRect (View.loadsAt_vmem h_S512x256)) rest
abbrev loadWo (rest : Vec F S256x512 .f32 → Code F) : Code F :=
  .op (.load woM (Rect.unit (s := S256x512) ![0, 0] S256x512.size inb_S256x512_S256x512_0_0).toLoadRect (View.loadsAt_vmem h_S256x512)) rest

/-- The scaled queries. -/
abbrev scaled (x : Vec F S256x512 .f32) (w : Vec F S512x256 .f32) : FVec F S256x256 .f32 := k0_pay1 x w
/-- The partial result of batch 0, from the inputs and the heads' keys and values. -/
def part0 (x : Vec F S256x512 .f32) (w : Vec F S512x256 .f32) (k0 k1 k2 k3 v0 v1 v2 v3 : Vec F S1x1x128x64 .f32) (wo : Vec F S256x512 .f32) :
    FVec F S128x512 .f32 :=
  k0_pay10 (k0_pay6 (k0_pay1 x w) (k0_pay2 x w k0) (k0_pay3 x w k1) (k0_pay4 x w) k2 k3 v0)
    (k0_pay7 (k0_pay1 x w) (k0_pay2 x w k0) (k0_pay3 x w k1) (k0_pay4 x w) k2 k3 v1)
    (k0_pay8 (k0_pay1 x w) (k0_pay2 x w k0) (k0_pay3 x w k1) (k0_pay4 x w) k2 k3 v2)
    (k0_pay9 (k0_pay1 x w) (k0_pay2 x w k0) (k0_pay3 x w k1) (k0_pay4 x w) k2 k3 v3) wo
/-- The partial result of batch 1. -/
def part1 (x : Vec F S256x512 .f32) (w : Vec F S512x256 .f32) (k0 k1 k2 k3 v0 v1 v2 v3 : Vec F S1x1x128x64 .f32) (wo : Vec F S256x512 .f32) :
    FVec F S128x512 .f32 :=
  k0_pay17 (k0_pay15 (k0_pay1 x w) k0 k1 k2 k3) (k0_pay16 (k0_pay1 x w) k0 k1 k2 k3) v0 v1 v2 v3 wo
theorem cut_inb (j : Fin 4) : ∀ a : Fin 2, (![32 * j.val, 0] : Fin 2 → Nat) a + S32x512.size a ≤ S128x512.size a := by
  revert j; decide
/-- Rows `32 j` to `32 j + 31` of a partial result, rounded and shaped as a slot. -/
def cut (j : Fin 4) (p : FVec F S128x512 .f32) : FVec F S1x32x512 .bf16 :=
  shapeCast S1x32x512 (truncf .bf16 (extractStridedSlice S32x512 ![32 * j.val, 0] p
    (by revert j; decide)) bitsLt_bf16_f32) shapeCasts_S32x512_S1x32x512

/-- The body, with the four chunks of a batch sent as soon as the batch is done. -/
def flat : Code F :=
  .op .deviceId fun d =>
  .op (.semSignal (Dev.tc (⟨k0_dev1 d, k0_dev1_lt d⟩ : Dev nD)) barS 1) fun _ =>
  .op (.semSignal (Dev.tc (⟨k0_dev2 d, k0_dev2_lt d⟩ : Dev nD)) barS 1) fun _ =>
  loadX fun x => loadWq fun w =>
  loadK 0 0 fun k0 => loadK 0 1 fun k1 => loadK 0 2 fun k2 => loadK 0 3 fun k3 =>
  loadV 0 0 fun v0 => loadV 0 1 fun v1 => loadV 0 2 fun v2 => loadV 0 3 fun v3 =>
  loadWo fun wo =>
  .op (.semWait barS 2) fun _ =>
  each (fun i => step1 (dev1 d i) i (cut ⟨i.val % 4, Nat.mod_lt _ (by decide)⟩ (part0 x w k0 k1 k2 k3 v0 v1 v2 v3 wo))) batch0 <|
  loadK 1 0 fun l0 => loadK 1 1 fun l1 => loadK 1 2 fun l2 => loadK 1 3 fun l3 =>
  loadV 1 0 fun u0 => loadV 1 1 fun u1 => loadV 1 2 fun u2 => loadV 1 3 fun u3 =>
  loadWo fun wo' =>
  each (fun i => step1 (dev1 d i) i (cut ⟨i.val % 4, Nat.mod_lt _ (by decide)⟩ (part1 x w l0 l1 l2 l3 u0 u1 u2 u3 wo'))) batch1 <|
  tail d

set_option maxRecDepth 65536 in
set_option maxHeartbeats 4000000 in
/-- The printed body is the sequence of steps. -/
theorem body_flat : (cc0_body xM (Memref.isWhole_whole _) wqM (Memref.isWhole_whole _) kM (Memref.isWhole_whole _) vM (Memref.isWhole_whole _)
    woM (Memref.isWhole_whole _) outM (Memref.isWhole_whole _) commM (Memref.isWhole_whole _) sumM (Memref.isWhole_whole _)
    cc0_scratch2 cc0_scratch3 cc0_scratch4 : Code F) = flat := by
  rfl

end Cert.Exchange

end
-- ==== Proof.Protocol.lean ====
/- The exchange's protocol: who sends to whom, on which counter, and what every counter's units hand over. -/
module

public import proofs.«01_k».proof.Proof.Steps
public import Idealize.ShloMosaic.Lib.Pipeline.Launch
public import Idealize.ShloMosaic.Lib.Pipeline.Kit
public import Idealize.ShloMosaic.Lib.Pipeline.BigSepL
public import Idealize.ShloMosaic.Lib.Pipeline.Regions
public import Idealize.ShloMosaic.Lib.Pipeline.RegionTalk
public import Idealize.ShloMosaic.Lib.Tactic
public import Idealize.ShloMosaic.Lib.Rounds
public import Idealize.ShloMosaic.Lib.Memref
public import Idealize.ShloMosaic.Lib.MemrefSat
public import Idealize.ShloMosaic.Lib.Quiescent

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds, and the exchange's with two possible payers of a round. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR
abbrev 𝒱₀ : Variants := Variants.none

/-! ## The partners -/

/-- The two neighbours of a device: along the first axis (`false`: 0 with 1, 2 with 3), along the second (`true`: 0 with 3, 1 with 2). -/
def nbr (b : Bool) (c : Dev nD) : Dev nD := if b then (3 - c : Fin 4) else ![1, 0, 3, 2] c
/-- A neighbour's neighbour along the same axis is the device itself. -/
theorem nbr_nbr (b : Bool) (c : Dev nD) : nbr b (nbr b c) = c := by revert b c; decide
def nbrE (b : Bool) : Dev nD ≃ Dev nD := ⟨nbr b, nbr b, nbr_nbr b, nbr_nbr b⟩

/-- The axis of transfer `k`: a chunk with an even number goes along the first axis first, one with an odd number along the second. -/
def side (k : Fin 16) : Bool := (k.val / 2 + k.val) % 2 = 1
/-- The partner of device `c` in transfer `k`. -/
abbrev peer (k : Fin 16) (c : Dev nD) : Dev nD := nbr (side k) c
theorem peer_peer (k : Fin 16) (c : Dev nD) : peer k (peer k c) = c := nbr_nbr _ c

/-- The device that the first exchange of chunk `i` names is the partner of its transfer, -/
theorem dev1_eq (c : Dev nD) (i : Fin 8) : dev1 c i = peer (fst1 i) c := by revert c i; decide
/-- and so is the second's. -/
theorem dev2_eq (c : Dev nD) (i : Fin 8) : dev2 c i = peer (snd2 i) c := by revert c i; decide
/-- The two devices that the barrier signals are the neighbours. -/
theorem devF_eq (c : Dev nD) : (⟨k0_dev1 c, k0_dev1_lt c⟩ : Dev nD) = nbr false c := by revert c; decide
theorem devT_eq (c : Dev nD) : (⟨k0_dev2 c, k0_dev2_lt c⟩ : Dev nD) = nbr true c := by revert c; decide

/-! ## Counters and memory -/

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))
abbrev outCell (c : Dev nD) (i : Fin 8) : GSem nD τ sig := ((c : Thread nD τ), .dma (outS i))

/-- Slot `k` of the communication buffer, finished sum `i` and chunk `i` of the result, with three axes as loads and stores take them. -/
abbrev slot3 (k : Fin 32) : Memref sig .tc .vmem S1x32x512 .bf16 := commM.slice (slotR k) (fun _ => rfl)
abbrev sum3 (i : Fin 8) : Memref sig .tc .vmem S1x32x512 .f32 := sumM.slice (sumR i) (fun _ => rfl)
abbrev out3 (i : Fin 8) : Memref sig .tc .hbm S1x32x512 .f32 := outM.slice (outR i) (fun _ => rfl)

/-- Device `c` holds share `q` of slot `k` at contents `x`. -/
abbrev slotAt (c : Dev nD) (k : Fin 32) (q : PosShare TreeShare) (x : Vec F S1x32x512 .bf16) : sProp 𝕄 := owns (c : Thread nD τ) (slot3 k) q x
abbrev slotAny (c : Dev nD) (k : Fin 32) (q : PosShare TreeShare) : sProp 𝕄 := iprop(∃ x, slotAt c k q x)
abbrev sumAt (c : Dev nD) (i : Fin 8) (x : Vec F S1x32x512 .f32) : sProp 𝕄 := owns (c : Thread nD τ) (sum3 i) fullShare x
abbrev sumAny (c : Dev nD) (i : Fin 8) : sProp 𝕄 := iprop(∃ x, sumAt c i x)
abbrev outAt (c : Dev nD) (i : Fin 8) (x : Vec F S1x32x512 .f32) : sProp 𝕄 := owns (c : Thread nD τ) (out3 i) fullShare x
abbrev outAny (c : Dev nD) (i : Fin 8) : sProp 𝕄 := iprop(∃ x, outAt c i x)

/-- The units of one transfer of a slot, and of one copy into the result. -/
def NS : ℕ := (slotM 0).view.dmaCredit
def NO : ℕ := (outSlot 0).view.dmaCredit
theorem NS_pos : 0 < NS := View.dmaCredit_pos _ (by decide)
theorem NO_pos : 0 < NO := View.dmaCredit_pos _ (by decide)

/-! ## What is exchanged -/

section Contents

variable (P : Dev nD → Fin 8 → Vec F S1x32x512 .bf16)

/-- The sum of chunk `i` over a device and its first partner. -/
def pairSum (c : Dev nD) (i : Fin 8) : Vec F S1x32x512 .bf16 := k0_pay22 (P c i) (P (peer (fst1 i) c) i)
/-- Chunk `i` of the result: the pair sums of a device and its second partner, added. -/
def fullSum (c : Dev nD) (i : Fin 8) : Vec F S1x32x512 .f32 := k0_pay30 (pairSum P c i) (pairSum P (peer (snd2 i) c) i)
/-- What device `c` sends in transfer `k`. -/
def sent (c : Dev nD) (k : Fin 16) : Vec F S1x32x512 .bf16 :=
  if k.val % 2 = 0 then P c ⟨k.val / 2, by omega⟩ else pairSum P c ⟨k.val / 2, by omega⟩
theorem sent_fst (c : Dev nD) (i : Fin 8) : sent P c (fst1 i) = P c i := by
  rw [sent, if_pos (by show 2 * i.val % 2 = 0; omega)]; congr 1; exact Fin.ext (by show 2 * i.val / 2 = i.val; omega)
theorem sent_snd (c : Dev nD) (i : Fin 8) : sent P c (snd2 i) = pairSum P c i := by
  rw [sent, if_neg (by show ¬ (2 * i.val + 1) % 2 = 0; omega)]; congr 1; exact Fin.ext (by show (2 * i.val + 1) / 2 = i.val; omega)

/-! ## The schedule -/

/-- The signal of neighbour `b` to device `c`'s barrier hands over the slots that `c` will fill there, and that the counters of
    those transfers are in use. -/
def barPay (c : Dev nD) (b : Bool) : sProp 𝕄 :=
  bigSep (Finset.univ.filter fun k => side k = b) fun k => iprop(slotAny (nbr b c) (got k) fullShare ∗ reached ER (recvCell (nbr b c) k) 0)
/-- The arrival of transfer `k` hands over the slot at what the partner sent. -/
def recvPay (c : Dev nD) (k : Fin 16) : sProp 𝕄 := slotAt c (got k) fullShare (sent P (peer k c) k)
/-- The departure of transfer `k` hands back the half of the slot that was lent to it. -/
def sendPay (c : Dev nD) (k : Fin 16) : sProp 𝕄 := slotAny (F := F) c (own k) fullShare.right
/-- The copy of chunk `i` hands over the chunk of the result, and the finished sum's buffer back. -/
def outPay (c : Dev nD) (i : Fin 8) : sProp 𝕄 := iprop(outAt c i (fullSum P c i) ∗ sumAny c i)

/-- What the semaphores are for. -/
inductive Role | bar | send (k : Fin 16) | recv (k : Fin 16) | out (i : Fin 8) | other
deriving DecidableEq

/-- A semaphore's role, by its place. -/
def roleOf : SemLoc sig → Role
  | .reg _ => .bar
  | .dma s => if h : 5 ≤ s.val ∧ s.val < 21 then .send ⟨s.val - 5, by omega⟩ else if h : 21 ≤ s.val ∧ s.val < 37 then .recv ⟨s.val - 21, by omega⟩
      else if h : 37 ≤ s.val ∧ s.val < 45 then .out ⟨s.val - 37, by omega⟩ else .other
theorem role_bar : roleOf (.reg barS) = .bar := rfl
theorem role_send (k : Fin 16) : roleOf (.dma (sendS k)) = .send k := by revert k; decide
theorem role_recv (k : Fin 16) : roleOf (.dma (recvS k)) = .recv k := by revert k; decide
theorem role_out (i : Fin 8) : roleOf (.dma (outS i)) = .out i := by revert i; decide

/-- Who pays: both neighbours on a barrier, one payer on a transfer's counter. -/
def roleDuties : Role → Finset Bool | .bar => {false, true} | .other => ∅ | _ => {false}
/-- How many units each pays. -/
def roleAmount : Role → ℕ | .bar => 1 | .out _ => NO | _ => NS
/-- What each hands over. -/
def rolePay (c : Dev nD) (b : Bool) : Role → sProp 𝕄
  | .bar => barPay c b | .send k => sendPay c k | .recv k => recvPay P c k | .out i => outPay P c i | .other => iprop(emp)
theorem roleAmount_pos (r : Role) : 0 < roleAmount r := by
  cases r <;> first | exact Nat.one_pos | exact NO_pos | exact NS_pos

/-- One round on every counter: two duties on a barrier, one on every counter of a transfer. -/
def Rd : Rounds.Schedule (GSem nD τ sig) Bool 𝕄 where
  duties g r := if r = 0 ∧ g.1.2 = .tc then roleDuties (roleOf g.2) else ∅
  unitless _ := False
  amount g _ _ := roleAmount (roleOf g.2)
  payload g _ b := rolePay P g.1.1 b (roleOf g.2)
  amount_pos _ _ _ _ := roleAmount_pos _

instance Rd_storable (g : GSem nD τ sig) (r : ℕ) (b : Bool) : BI.Storable (upEmb : UEmb _ 𝕄) ((Rd P).payload g r b) := by
  show BI.Storable upEmb (rolePay P g.1.1 b (roleOf g.2))
  cases roleOf g.2 <;> simp only [rolePay, barPay, sendPay, recvPay, outPay] <;> infer_instance

theorem duties_at (c : Dev nD) (sm : SemLoc sig) : (Rd P).duties ((c : Thread nD τ), sm) 0 = roleDuties (roleOf sm) := by
  dsimp only [Rd]; exact if_pos ⟨rfl, rfl⟩
theorem duties_later (g : GSem nD τ sig) : ∀ r, 1 ≤ r → (Rd P).duties g r = ∅ := fun r hr => by
  dsimp only [Rd]; exact if_neg fun h => by omega

theorem duties_bar (c : Dev nD) : (Rd P).duties (barCell c) 0 = {false, true} := duties_at P c _
theorem duties_send (c : Dev nD) (k : Fin 16) : (Rd P).duties (sendCell c k) 0 = {false} := by rw [duties_at, role_send]; rfl
theorem duties_recv (c : Dev nD) (k : Fin 16) : (Rd P).duties (recvCell c k) 0 = {false} := by rw [duties_at, role_recv]; rfl
theorem duties_out (c : Dev nD) (i : Fin 8) : (Rd P).duties (outCell c i) 0 = {false} := by rw [duties_at, role_out]; rfl

theorem amount_bar (c : Dev nD) (b : Bool) : (Rd P).amount (barCell c) 0 b = 1 := rfl
theorem amount_send (c : Dev nD) (k : Fin 16) (b : Bool) : (Rd P).amount (sendCell c k) 0 b = NS := by
  show roleAmount (roleOf (.dma (sendS k))) = _; rw [role_send]; rfl
theorem amount_recv (c : Dev nD) (k : Fin 16) (b : Bool) : (Rd P).amount (recvCell c k) 0 b = NS := by
  show roleAmount (roleOf (.dma (recvS k))) = _; rw [role_recv]; rfl
theorem amount_out (c : Dev nD) (i : Fin 8) (b : Bool) : (Rd P).amount (outCell c i) 0 b = NO := by
  show roleAmount (roleOf (.dma (outS i))) = _; rw [role_out]; rfl

theorem expect_bar (c : Dev nD) : (Rd P).expect (barCell c) 0 = 2 := by
  unfold Schedule.expect Schedule.amountOf; rw [duties_bar]; rfl
theorem expect_send (c : Dev nD) (k : Fin 16) : (Rd P).expect (sendCell c k) 0 = NS := by
  unfold Schedule.expect Schedule.amountOf; rw [duties_send, Finset.sum_singleton, amount_send]
theorem expect_recv (c : Dev nD) (k : Fin 16) : (Rd P).expect (recvCell c k) 0 = NS := by
  unfold Schedule.expect Schedule.amountOf; rw [duties_recv, Finset.sum_singleton, amount_recv]
theorem expect_out (c : Dev nD) (i : Fin 8) : (Rd P).expect (outCell c i) 0 = NO := by
  unfold Schedule.expect Schedule.amountOf; rw [duties_out, Finset.sum_singleton, amount_out]

theorem payload_bar (c : Dev nD) (b : Bool) : (Rd P).payload (barCell c) 0 b = barPay c b := rfl
theorem payload_send (c : Dev nD) (k : Fin 16) (b : Bool) : (Rd P).payload (sendCell c k) 0 b = sendPay c k := by
  show rolePay P c b (roleOf (.dma (sendS k))) = _; rw [role_send]; rfl
theorem payload_recv (c : Dev nD) (k : Fin 16) (b : Bool) : (Rd P).payload (recvCell c k) 0 b = recvPay P c k := by
  show rolePay P c b (roleOf (.dma (recvS k))) = _; rw [role_recv]; rfl
theorem payload_out (c : Dev nD) (i : Fin 8) (b : Bool) : (Rd P).payload (outCell c i) 0 b = outPay P c i := by
  show rolePay P c b (roleOf (.dma (outS i))) = _; rw [role_out]; rfl

theorem rest_bar (c : Dev nD) : bigSep ((Rd P).duties (barCell c) 0 \ ∅) (fun b => (Rd P).payload (barCell c) 0 b)
    = iprop(barPay c false ∗ barPay c true) := by
  rw [Finset.sdiff_empty, duties_bar, bigSep_insert (by decide), bigSep_singleton]; rfl
theorem rest_send (c : Dev nD) (k : Fin 16) : bigSep ((Rd P).duties (sendCell c k) 0 \ ∅) (fun b => (Rd P).payload (sendCell c k) 0 b)
    = sendPay c k := by rw [Finset.sdiff_empty, duties_send, bigSep_singleton, payload_send]
theorem rest_recv (c : Dev nD) (k : Fin 16) : bigSep ((Rd P).duties (recvCell c k) 0 \ ∅) (fun b => (Rd P).payload (recvCell c k) 0 b)
    = recvPay P c k := by rw [Finset.sdiff_empty, duties_recv, bigSep_singleton, payload_recv]
theorem rest_out (c : Dev nD) (i : Fin 8) : bigSep ((Rd P).duties (outCell c i) 0 \ ∅) (fun b => (Rd P).payload (outCell c i) 0 b)
    = outPay P c i := by rw [Finset.sdiff_empty, duties_out, bigSep_singleton, payload_out]

end Contents

/-! ## What a device owes: the transfers it has still to make; the levels -/

/-- What a device owes for the transfers of a list. -/
def dues (c : Dev nD) : List (Fin 16) → CellTallies nD τ sig Unit
  | [] => 0
  | k :: l => dues c l + tallyAt (recvCell (peer k c) k) () NS

/-- At launch: both neighbours' barrier units, and all transfers. -/
def O₀ (c : Dev nD) : CellTallies nD τ sig Unit :=
  (dues c (firsts ++ seconds) + tallyAt (barCell (nbr true c)) () 1) + tallyAt (barCell (nbr false c)) () 1

theorem dues_pos {c : Dev nD} {l : List (Fin 16)} {g : GSem nD τ sig} {u : Unit} (h : 0 < dues c l g u) : ∃ k ∈ l, g = recvCell (peer k c) k := by
  induction l with
  | nil => exact absurd h (Nat.lt_irrefl 0)
  | cons k l ih =>
    rw [dues, Pi.add_apply, Finsupp.add_apply] at h
    rcases Nat.add_pos_iff_pos_or_pos.mp h with h | h
    · obtain ⟨k', hk, e⟩ := ih h; exact ⟨k', List.mem_cons_of_mem _ hk, e⟩
    · rw [tallyAt_apply] at h
      by_cases e : g = recvCell (peer k c) k ∧ u = ()
      · exact ⟨k, List.mem_cons_self, e.1⟩
      · rw [if_neg e] at h; exact absurd h (Nat.lt_irrefl 0)

def L (g : GSem nD τ sig) : Finset Unit := if g.1.2 = .tc then {()} else ∅
def roleLv : Role → ℕ | .bar => 1 | .recv k => 2 + k.val % 2 | _ => 0
/-- Barriers at 1, the first arrivals at 2, the second at 3, the rest at 0. -/
def lv (g : GSem nD τ sig) (_ : Unit) : ℕ := roleLv (roleOf g.2)

theorem L_of_ne (g : GSem nD τ sig) (h : g.1.2 ≠ .tc) : L g = ∅ := if_neg h
theorem L_tc (c : Dev nD) (sm : SemLoc sig) : L ((c : Thread nD τ), sm) = {()} := if_pos rfl

/-- A device may wait on a counter while it owes only transfers of a higher level. -/
theorem mayWait_dues (c : Dev nD) (sm : SemLoc sig) (l : List (Fin 16)) (h : ∀ k ∈ l, roleLv (roleOf sm) < 2 + k.val % 2) :
    (levAts L lv : sProp 𝕄) ⊢ MayWait (c : Thread nD τ) sm () (dues c l) :=
  MayOwe.of_cut (L := L) (lev := lv) (roleLv (roleOf sm)) (fun p hp => by rw [Finset.mem_singleton.mp hp, L_tc]; exact Finset.mem_singleton_self _)
    (fun g u hg => by obtain ⟨k, -, rfl⟩ := dues_pos hg; rw [L_tc]; exact Finset.mem_singleton_self _)
    (fun p hp => by rw [Finset.mem_singleton.mp hp]; exact le_rfl)
    (fun g u hg => by obtain ⟨k, hk, rfl⟩ := dues_pos hg; show _ < roleLv (roleOf (.dma (recvS k))); rw [role_recv]; exact h k hk)

end Cert.Exchange

end
-- ==== Proof.Rules.lean ====
/- One rule per step of the exchange, each for an arbitrary chunk or transfer. -/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Moving a slot's contents through the two-axis views -/

/-- What was read through a re-indexing of one view and written through the same re-indexing of another, reads there the same. -/
theorem read_moved {κ κ' : Kind} {sp sp' : Space} {s s' : Shape} {e : EltTy} (v : View sig κ sp s e) (v' : View sig κ' sp' s e)
    (h : s'.numel = s.numel) (f : v.ty.Contents (Elt F)) (f' : v'.ty.Contents (Elt F)) :
    v'.read (Elt F) ((v'.reshape s' h).write (Elt F) f' ((v.reshape s' h).read (Elt F) f) Finset.univ) = v.read (Elt F) f := by
  rw [View.write_reshape_univ, View.read_write_univ]
  funext x
  show v.read (Elt F) f (Shape.reshapeEquiv h ((Shape.reshapeEquiv h).symm x)) = _
  rw [Equiv.apply_symm_apply]

/-- Elements held at contents that a view reads as `x`, are the view held at `x`. -/
theorem owns_mk {c : Thread nD τ} {sp : Space} {s : Shape} {e : EltTy} {m : Memref sig c.2.kind sp s e} {q : PosShare TreeShare}
    {f : Buf (Elt F) (m.view.loc c)} {x : s.Idx → Elt F e} (h : m.view.read (Elt F) f = x) :
    (m.view.loc c ↦[m.view.set]{q} f : sProp 𝕄) ⊢ owns c m q x := by
  subst h; exact owns_intro c m q f

theorem slot_set (k : Fin 32) : (slotM k).view.set = (slot3 k).view.set := View.set_reshape _ _
theorem sum_set (i : Fin 8) : (sumSlot i).view.set = (sum3 i).view.set := View.set_reshape _ _
theorem out_set (i : Fin 8) : (outSlot i).view.set = (out3 i).view.set := View.set_reshape _ _

/-! ## The counters in use -/

theorem osem_lt (j : Fin 40) : 5 + j.val < 45 := by omega
/-- The kernel's own counters: 16 of departures, 16 of arrivals, 8 of copies. -/
def osem (j : Fin 40) : SemLoc sig := .dma ⟨5 + j.val, osem_lt j⟩
theorem osem_inj : Function.Injective osem := by decide
def barE : Dev nD ↪ GSem nD τ sig := ⟨barCell, by decide⟩
def scE : Dev nD × Fin 40 ↪ GSem nD τ sig := ⟨fun p => ((p.1 : Thread nD τ), osem p.2), fun p q h => by
  have h1 := congrArg (fun g : GSem nD τ sig => g.1.1) h
  have h2 := osem_inj (congrArg Prod.snd h)
  exact Prod.ext h1 h2⟩
def barCells : Finset (GSem nD τ sig) := Finset.univ.map barE
def scCells : Finset (GSem nD τ sig) := Finset.univ.map scE
theorem mem_bar (c : Dev nD) : barCell c ∈ barCells ∪ scCells := Finset.mem_union_left _ (Finset.mem_map_of_mem barE (Finset.mem_univ c))
theorem mem_sc (c : Dev nD) (j : Fin 40) : (((c : Thread nD τ), osem j) : GSem nD τ sig) ∈ barCells ∪ scCells :=
  Finset.mem_union_right _ (Finset.mem_map_of_mem scE (Finset.mem_univ (c, j)))
theorem sendS_osem (k : Fin 16) : (.dma (sendS k) : SemLoc sig) = osem ⟨k.val, by omega⟩ := by revert k; decide
theorem recvS_osem (k : Fin 16) : (.dma (recvS k) : SemLoc sig) = osem ⟨16 + k.val, by omega⟩ := by revert k; decide
theorem outS_osem (i : Fin 8) : (.dma (outS i) : SemLoc sig) = osem ⟨32 + i.val, by omega⟩ := by revert i; decide
theorem mem_send (c : Dev nD) (k : Fin 16) : sendCell c k ∈ barCells ∪ scCells := by rw [sendCell, sendS_osem]; exact mem_sc c _
theorem mem_recv (c : Dev nD) (k : Fin 16) : recvCell c k ∈ barCells ∪ scCells := by rw [recvCell, recvS_osem]; exact mem_sc c _
theorem mem_out (c : Dev nD) (i : Fin 8) : outCell c i ∈ barCells ∪ scCells := by rw [outCell, outS_osem]; exact mem_sc c _

section Rules

variable (P : Dev nD → Fin 8 → Vec F S1x32x512 .bf16) (K : GSem nD τ sig → ℕ)

/-- Every counter of the exchange follows the schedule. -/
def recs : sProp 𝕄 := bigSep (barCells ∪ scCells) fun g => cellInv ER (Rd P) (K g) g
instance recs_persistent : BI.Persistent (recs P K) := by unfold recs; infer_instance
theorem recs_at {g : GSem nD τ sig} (h : g ∈ barCells ∪ scCells) : recs P K ⊢ cellInv ER (Rd P) (K g) g := bigSep_elim h

/-- What a device runs. -/
abbrev run (c : Dev nD) (p : Code F) (Q : PUnit → sProp 𝕄) : sProp 𝕄 := wp frame (wpE (defs₀ (F := F)) 𝒱₀ c none) Set.univ p Q

variable (c : Dev nD)

/-- What transfer `k` takes beside its slot: the slot it fills, and the right to both counters. -/
def sendRes (k : Fin 16) : sProp 𝕄 :=
  iprop(slotAny (F := F) (peer k c) (got k) fullShare ∗ reached ER (recvCell (peer k c) k) 0 ∗ dutyTok ER (recvCell (peer k c) k) 0 false
    ∗ dutyTok ER (sendCell c k) 0 false ∗ reached ER (sendCell c k) 0)
/-- What is left of it: half the slot, and the claim on the departure. -/
def sentRes (k : Fin 16) : sProp 𝕄 := iprop(slotAt c (own k) fullShare.left (sent P c k) ∗ cred (tallyAt (sendCell c k) () NS))
/-- What a wait for an arrival takes, and what it gives. -/
def recvRes (k : Fin 16) : sProp 𝕄 := iprop(cred (tallyAt (recvCell c k) () NS) ∗ atPos ER (recvCell c k) 0 ∅ 0)
def gotRes (k : Fin 16) : sProp 𝕄 := iprop(slotAt c (got k) fullShare (sent P (peer k c) k) ∗ semVal (recvCell c k) 0)
/-- The device owes the transfers of a list. -/
def Ow (l : List (Fin 16)) : sProp 𝕄 := iprop(∃ W, owes (c : Thread nD τ) (dues c l) W)

theorem close (g : GSem nD τ sig) (κ : ℕ) : iprop(cellInv ER (Rd P) κ g ∗ atPos ER g (0 + 1) ∅ 0) ⊢ (|={Set.univ}=> semVal g 0 : sProp 𝕄) :=
  Rounds.cell_close ER (Rd P) (Set.mem_univ κ) id (duties_later P g)

/-- Reading a slot held at `x` gives `x`. -/
theorem load_rule (Q : PUnit → sProp 𝕄) (k : Fin 32) (q : PosShare TreeShare) (x : Vec F S1x32x512 .bf16) (rest : Vec F S1x32x512 .bf16 → Code F) :
    slotAt c k q x ⊢ iprop((slotAt c k q x -∗ run c (rest x) Q) -∗ run c (loadSlot k rest) Q) := by
  unfold slotAt owns
  iintro ⟨%f, %hf, H⟩ Hk
  iapply (wp_load_rect 𝒱₀ (c : Thread nD τ) none Set.univ (m := commM) (r := slotR k) (S := (slot3 k).view.set) (q := q) (f := f) (Finset.Subset.refl _)) $$ H
  iintro H
  rw [show ((commM.access (slotR k)).read (Elt F) f) = x from hf]
  iapply Hk
  iexists f; isplitr; · ipureintro; exact hf
  iexact H

/-- Writing a slot. -/
theorem store_rule (Q : PUnit → sProp 𝕄) (k : Fin 32) (x : Vec F S1x32x512 .bf16) (rest : PUnit → Code F) :
    slotAny c k fullShare ⊢ iprop((slotAt c k fullShare x -∗ run c (rest ⟨⟩) Q) -∗ run c (storeSlot k x rest) Q) := by
  unfold slotAny slotAt owns
  iintro ⟨%y, %f, -, H⟩ Hk
  iapply (wp_store 𝒱₀ (c : Thread nD τ) none Set.univ (m := commM) (r := slotR k) (Mk := Finset.univ) (S := (slot3 k).view.set) (f := f)
    (Finset.Subset.refl _)) $$ H
  iintro H
  iapply Hk
  iexists _; isplitr
  · ipureintro; exact View.read_write_univ (v := commM.access (slotR k)) f x
  iexact H

/-- Transfer `k`. -/
theorem send_rule (Q : PUnit → sProp 𝕄) (k : Fin 16) (l : List (Fin 16)) (rest : Code F) :
    iprop(recs P K ∗ slotAt c (own k) fullShare (sent P c k) ∗ sendRes c k ∗ Ow c (k :: l))
      ⊢ iprop((iprop(sentRes P c k ∗ Ow c l) -∗ run c rest Q) -∗ run c (send (peer k c) k rest) Q) := by
  unfold sendRes Ow sentRes
  iintro ⟨#Hrec, Hs, ⟨Hd, #HrV, HtV, HtS, #HrS⟩, ⟨%W, HO⟩⟩ Hk
  ihave Hs2 := (owns_halves (c : Thread nD τ) (slot3 (own k)) fullShare (sent P c k)).1 $$ Hs
  icases Hs2 with ⟨HsL, HsR⟩
  unfold slotAny slotAt owns
  icases HsR with ⟨%fs, %hfs, HsR⟩
  icases Hd with ⟨%y, %fd, -, Hd⟩
  iapply (Rounds.wp_send_pointsTo 𝒱₀ ER (Rd P) (c : Thread nD τ) none (c' := (peer k c : Thread nD τ)) (src := slotM (own k)) (dst := slotM (got k))
      (sS := .dma (sendS k)) (sem := .dma (recvS k)) (q := fullShare.right) (fs := fs) (κ₁ := K (sendCell c k)) (κ₂ := K (recvCell (peer k c) k))
      (r₁ := 0) (r₂ := 0) (d₁ := false) (d₂ := false) (fd := fd)
      (by rw [duties_send]; exact Finset.mem_singleton_self _) (by rw [duties_recv]; exact Finset.mem_singleton_self _)
      () () NS rfl (amount_send P c k false) (amount_recv P (peer k c) k false) (dues c l) rfl (W := W)
      (by
        rw [payload_send]; unfold sendPay slotAny slotAt owns; rw [slot_set]
        iintro H; iexists sent P c k; iexists fs; isplitr; · ipureintro; exact hfs
        iexact H)
      (by
        rw [payload_recv]; unfold recvPay; rw [peer_peer, slot_set]
        refine owns_mk (c := (peer k c : Thread nD τ)) (m := slot3 (got k)) ?_
        exact (read_moved (slot3 (own k)).view (slot3 (got k)).view _ fs fd).trans hfs)) $$ [HsR Hd HO HtS HtV]
  · isplitr; · iapply (recs_at P K (mem_send c k)); iexact Hrec
    isplitr; · iapply (recs_at P K (mem_recv (peer k c) k)); iexact Hrec
    isplitl [HsR]; · rw [slot_set]; iexact HsR
    isplitl [Hd]; · rw [slot_set]; iexact Hd
    isplitl [HO]; · iexact HO
    isplitl [HtS]; · iexact HtS
    isplitr; · iexact HrS
    isplitl [HtV]; · iexact HtV
    iexact HrV
  iintro ⟨Hc, HO⟩
  iapply Hk
  isplitr [HO]
  · isplitl [HsL]; · iexact HsL
    iexact Hc
  iexists W; iexact HO

/-- The wait for an arrival. -/
theorem recv_rule (Q : PUnit → sProp 𝕄) (k : Fin 16) (l : List (Fin 16)) (hl : ∀ k' ∈ l, k.val % 2 < k'.val % 2) (rest : Code F) :
    iprop(recs P K ∗ levAts L lv ∗ recvRes c k ∗ Ow c l)
      ⊢ iprop((iprop(gotRes P c k ∗ Ow c l) -∗ run c rest Q) -∗ run c (waitRecv k rest) Q) := by
  unfold recvRes gotRes Ow
  iintro ⟨#Hrec, #Hlev, ⟨Hc, Hat⟩, ⟨%W, HO⟩⟩ Hk
  iapply (Rounds.wp_wait_rest_token 𝒱₀ ER (Rd P) (c : Thread nD τ) none (κ := K (recvCell c k))
      (wpE_waitDma2_eq (src := slotM (own k)) (dst := slotM (got k)) 𝒱₀ (c : Thread nD τ) none Set.univ) (Set.mem_univ _) ()
      (O := dues c l) (W := W) (R := 0) (m := 0) (T := ∅) ((Nat.zero_add _).trans (expect_recv P c k).symm)) $$ [Hc HO Hat]
  · isplitr; · iapply (recs_at P K (mem_recv c k)); iexact Hrec
    isplitl [Hc]; · iexact Hc
    isplitl [HO]; · iexact HO
    isplitr
    · iapply (mayWait_dues c (.dma (recvS k)) l (fun k' hk' => by rw [role_recv]; exact Nat.add_lt_add_left (hl k' hk') 2)); iexact Hlev
    iexact Hat
  iintro ⟨HO, Hat, -, Hpay⟩
  ihave Hs := (Entails.of_eq (rest_recv P c k)) $$ Hpay
  unfold recvPay
  imod (close P (recvCell c k) (K (recvCell c k))) $$ [Hat] with Hv
  · isplitr; · iapply (recs_at P K (mem_recv c k)); iexact Hrec
    iexact Hat
  iapply Hk
  isplitr [HO]
  · isplitl [Hs]; · iexact Hs
    iexact Hv
  iexists _; iexact HO

/-- The wait for a departure: the slot is whole again. -/
theorem waitSend_rule (Q : PUnit → sProp 𝕄) (k : Fin 16) (rest : Code F) :
    iprop(recs P K ∗ iprop(sentRes P c k ∗ atPos ER (sendCell c k) 0 ∅ 0) ∗ Ow c [])
      ⊢ iprop((iprop(iprop(slotAny (F := F) c (own k) fullShare ∗ semVal (sendCell c k) 0) ∗ Ow c []) -∗ run c rest Q) -∗ run c (waitSend k rest) Q) := by
  unfold sentRes Ow waitSend
  iintro ⟨#Hrec, ⟨⟨HsL, Hc⟩, Hat⟩, ⟨%W, HO⟩⟩ Hk
  iapply (Rounds.wp_wait_rest_token 𝒱₀ ER (Rd P) (c : Thread nD τ) none (κ := K (sendCell c k))
      (wpE_waitDma2_eq (src := slotM (got k)) (dst := slotM (own k)) 𝒱₀ (c : Thread nD τ) none Set.univ) (Set.mem_univ _) ()
      (O := dues c []) (W := W) (R := 0) (m := 0) (T := ∅) ((Nat.zero_add _).trans (expect_send P c k).symm)) $$ [Hc HO Hat]
  · isplitr; · iapply (recs_at P K (mem_send c k)); iexact Hrec
    isplitl [Hc]; · iexact Hc
    isplitl [HO]; · iexact HO
    isplitr; · rw [dues, MayWait_zero]; iempintro
    iexact Hat
  iintro ⟨HO, Hat, -, Hpay⟩
  ihave Hs := (Entails.of_eq (rest_send P c k)) $$ Hpay
  unfold sendPay
  icases Hs with ⟨%y, HsR⟩
  imod (close P (sendCell c k) (K (sendCell c k))) $$ [Hat] with Hv
  · isplitr; · iapply (recs_at P K (mem_send c k)); iexact Hrec
    iexact Hat
  iapply Hk
  isplitr [HO]
  · isplitr [Hv]
    · iexists sent P c k
      iapply (owns_rejoin (c : Thread nD τ) (slot3 (own k)) fullShare (Φ := fun _ => True) (sent P c k))
      isplitl [HsL]; · iexact HsL
      iapply (ownsSat_intro (c : Thread nD τ) (slot3 (own k)) fullShare.right (Φ := fun _ => True) (X := y) trivial)
      iexact HsR
    iexact Hv
  iexists _; iexact HO

/-! ## The steps of the body -/

/-- The first exchange. -/
theorem step1_rule (Q : PUnit → sProp 𝕄) (i : Fin 8) (l : List (Fin 16)) (rest : Code F) :
    iprop(recs P K ∗ iprop(slotAny c (own (fst1 i)) fullShare ∗ sendRes c (fst1 i)) ∗ Ow c (fst1 i :: l))
      ⊢ iprop((iprop(sentRes P c (fst1 i) ∗ Ow c l) -∗ run c rest Q) -∗ run c (step1 (dev1 c i) i (P c i) rest) Q) := by
  unfold step1
  rw [dev1_eq]
  iintro ⟨#Hrec, ⟨⟨%y, Hs⟩, Hres⟩, HO⟩ Hk
  iapply (load_rule c Q (own (fst1 i)) fullShare y _) $$ Hs
  iintro Hs
  iapply (store_rule c Q (own (fst1 i)) (P c i) _) $$ [Hs]
  · iexists y; iexact Hs
  iintro Hs
  iapply (send_rule P K c Q (fst1 i) l rest) $$ [Hs Hres HO]
  · isplitr; · iexact Hrec
    isplitl [Hs]; · rw [sent_fst]; iexact Hs
    isplitl [Hres] <;> iassumption
  iexact Hk

/-- The second exchange. -/
theorem step2_rule (Q : PUnit → sProp 𝕄) (i : Fin 8) (l : List (Fin 16)) (hl : ∀ k ∈ l, k.val % 2 = 1) (rest : Code F) :
    iprop(recs P K ∗ levAts L lv ∗ iprop(sentRes P c (fst1 i) ∗ recvRes c (fst1 i) ∗ slotAny c (own (snd2 i)) fullShare ∗ sendRes c (snd2 i))
        ∗ Ow c (snd2 i :: l))
      ⊢ iprop((iprop(iprop(sentRes P c (fst1 i) ∗ gotRes P c (fst1 i) ∗ sentRes P c (snd2 i)) ∗ Ow c l) -∗ run c rest Q)
          -∗ run c (step2 (dev2 c i) i rest) Q) := by
  unfold step2
  rw [dev2_eq]
  iintro ⟨#Hrec, #Hlev, ⟨Hsent, Hrecv, ⟨%y, Hs⟩, Hres⟩, HO⟩ Hk
  iapply (recv_rule P K c Q (fst1 i) (snd2 i :: l) (fun k hk => by
    have h1 : (fst1 i).val % 2 = 0 := by show 2 * i.val % 2 = 0; omega
    have h2 : k.val % 2 = 1 := by
      rcases List.mem_cons.mp hk with rfl | hk
      · show (2 * i.val + 1) % 2 = 1; omega
      · exact hl k hk
    rw [h1, h2]; exact Nat.one_pos) _) $$ [Hrecv HO]
  · isplitr; · iexact Hrec
    isplitr; · iexact Hlev
    isplitl [Hrecv] <;> iassumption
  iintro ⟨Hgot, HO⟩
  ihave Hsent' := (Entails.of_eq (show sentRes P c (fst1 i) = iprop(slotAt c (own (fst1 i)) fullShare.left (sent P c (fst1 i)) ∗ cred (tallyAt (sendCell c (fst1 i)) () NS)) from rfl)) $$ Hsent
  icases Hsent' with ⟨Hown, Hcr⟩
  ihave Hgot' := (Entails.of_eq (show gotRes P c (fst1 i) = iprop(slotAt c (got (fst1 i)) fullShare (sent P (peer (fst1 i) c) (fst1 i)) ∗ semVal (recvCell c (fst1 i)) 0) from rfl)) $$ Hgot
  icases Hgot' with ⟨Hg, Hv⟩
  iapply (load_rule c Q (own (fst1 i)) fullShare.left (sent P c (fst1 i)) _) $$ Hown
  iintro Hown
  iapply (load_rule c Q (got (fst1 i)) fullShare (sent P (peer (fst1 i) c) (fst1 i)) _) $$ Hg
  iintro Hg
  iapply (load_rule c Q (own (snd2 i)) fullShare y _) $$ Hs
  iintro Hs
  iapply (store_rule c Q (own (snd2 i)) (k0_pay22 (sent P c (fst1 i)) (sent P (peer (fst1 i) c) (fst1 i))) _) $$ [Hs]
  · iexists y; iexact Hs
  iintro Hs
  iapply (send_rule P K c Q (snd2 i) l rest) $$ [Hs Hres HO]
  · isplitr; · iexact Hrec
    isplitl [Hs]; · rw [sent_snd, sent_fst, sent_fst]; iexact Hs
    isplitl [Hres] <;> iassumption
  iintro ⟨Hsent2, HO⟩
  iapply Hk
  isplitr [HO]
  · unfold sentRes gotRes
    isplitl [Hown Hcr]; · isplitl [Hown] <;> iassumption
    isplitl [Hg Hv]; · isplitl [Hg] <;> iassumption
    iexact Hsent2
  iexact HO

/-- What the copy of chunk `i` takes beside the sums: its two buffers, and the right to its counter. -/
def outRes (i : Fin 8) : sProp 𝕄 := iprop(sumAny (F := F) c i ∗ outAny (F := F) c i ∗ dutyTok ER (outCell c i) 0 false ∗ reached ER (outCell c i) 0)
/-- The claim on it. -/
def copyRes (i : Fin 8) : sProp 𝕄 := cred (tallyAt (outCell c i) () NO)
/-- The chunk of the result, the buffer back, the counter at rest. -/
def doneRes (i : Fin 8) : sProp 𝕄 := iprop(outAt c i (fullSum P c i) ∗ sumAny c i ∗ semVal (outCell c i) 0)

/-- The sum of a chunk and its copy into the result. -/
theorem step3_rule (Q : PUnit → sProp 𝕄) (i : Fin 8) (rest : Code F) :
    iprop(recs P K ∗ levAts L lv ∗ iprop(sentRes P c (snd2 i) ∗ recvRes c (snd2 i) ∗ outRes c i) ∗ Ow c [])
      ⊢ iprop((iprop(iprop(sentRes P c (snd2 i) ∗ gotRes P c (snd2 i) ∗ copyRes c i) ∗ Ow c []) -∗ run c rest Q)
          -∗ run c (step3 i rest) Q) := by
  unfold step3
  iintro ⟨#Hrec, #Hlev, ⟨Hsent, Hrecv, Hout⟩, HO⟩ Hk
  iapply (recv_rule P K c Q (snd2 i) [] (fun k hk => absurd hk List.not_mem_nil) _) $$ [Hrecv HO]
  · isplitr; · iexact Hrec
    isplitr; · iexact Hlev
    isplitl [Hrecv] <;> iassumption
  iintro ⟨Hgot, HO⟩
  ihave Hsent' := (Entails.of_eq (show sentRes P c (snd2 i) = iprop(slotAt c (own (snd2 i)) fullShare.left (sent P c (snd2 i)) ∗ cred (tallyAt (sendCell c (snd2 i)) () NS)) from rfl)) $$ Hsent
  icases Hsent' with ⟨Hown, Hcr⟩
  ihave Hgot' := (Entails.of_eq (show gotRes P c (snd2 i) = iprop(slotAt c (got (snd2 i)) fullShare (sent P (peer (snd2 i) c) (snd2 i)) ∗ semVal (recvCell c (snd2 i)) 0) from rfl)) $$ Hgot
  icases Hgot' with ⟨Hg, Hv⟩
  iapply (load_rule c Q (own (snd2 i)) fullShare.left (sent P c (snd2 i)) _) $$ Hown
  iintro Hown
  iapply (load_rule c Q (got (snd2 i)) fullShare (sent P (peer (snd2 i) c) (snd2 i)) _) $$ Hg
  iintro Hg
  unfold outRes sumAny sumAt outAny outAt owns
  icases Hout with ⟨⟨%y, %f, -, Hf⟩, ⟨%z, %g, -, Hz⟩, Ht, #Hr⟩
  iapply (wp_load_rect 𝒱₀ (c : Thread nD τ) none Set.univ (m := sumM) (r := sumR i) (S := (sum3 i).view.set) (q := fullShare) (f := f) (Finset.Subset.refl _)) $$ Hf
  iintro Hf
  iapply (wp_store 𝒱₀ (c : Thread nD τ) none Set.univ (m := sumM) (r := sumR i) (Mk := Finset.univ) (S := (sum3 i).view.set) (f := f)
    (Finset.Subset.refl _)) $$ Hf
  iintro Hf
  iapply (Rounds.wp_copy_pointsTo 𝒱₀ ER (Rd P) (c : Thread nD τ) none (src := sumSlot i) (dst := outSlot i) (sem := .dma (outS i)) (q := fullShare)
      (fs := (sumM.access (sumR i)).write (Elt F) f (k0_pay30 (sent P c (snd2 i)) (sent P (peer (snd2 i) c) (snd2 i))) Finset.univ)
      (fd := g) (r := 0) (d := false) (κ := K (outCell c i))
      (by rw [duties_out]; exact Finset.mem_singleton_self _) () NO rfl (amount_out P c i false)
      (by
        rw [payload_out]; unfold outPay; rw [sum_set, out_set]
        refine BI.sep_mono (owns_mk (c := (c : Thread nD τ)) (m := out3 i) ?_) ((owns_mk (c := (c : Thread nD τ)) (m := sum3 i) rfl).trans (by iintro H; iexists _; iexact H))
        refine (read_moved (sum3 i).view (out3 i).view _ _ g).trans ((View.read_write_univ (v := sumM.access (sumR i)) f _).trans ?_)
        rw [sent_snd, sent_snd]; rfl)) $$ [Hf Hz Ht]
  · isplitr; · iapply (recs_at P K (mem_out c i)); iexact Hrec
    isplitl [Hf]; · rw [sum_set]; iexact Hf
    isplitl [Hz]; · rw [out_set]; iexact Hz
    isplitl [Ht]; · iexact Ht
    iexact Hr
  iintro Hcp
  iapply Hk
  isplitr [HO]
  · unfold sentRes gotRes copyRes slotAt owns
    isplitl [Hown Hcr]; · isplitl [Hown] <;> iassumption
    isplitl [Hg Hv]; · isplitl [Hg] <;> iassumption
    iexact Hcp
  iexact HO

/-- The wait for the copy of a chunk. -/
theorem waitOut_rule (Q : PUnit → sProp 𝕄) (i : Fin 8) (rest : Code F) :
    iprop(recs P K ∗ iprop(copyRes c i ∗ atPos ER (outCell c i) 0 ∅ 0) ∗ Ow c [])
      ⊢ iprop((iprop(doneRes P c i ∗ Ow c []) -∗ run c rest Q) -∗ run c (waitOut i rest) Q) := by
  unfold copyRes Ow waitOut
  iintro ⟨#Hrec, ⟨Hc, Hat⟩, ⟨%W, HO⟩⟩ Hk
  iapply (Rounds.wp_wait_rest_token 𝒱₀ ER (Rd P) (c : Thread nD τ) none (κ := K (outCell c i))
      (wpE_waitDma2_eq (src := sumSlot i) (dst := outSlot i) 𝒱₀ (c : Thread nD τ) none Set.univ) (Set.mem_univ _) ()
      (O := dues c []) (W := W) (R := 0) (m := 0) (T := ∅) ((Nat.zero_add _).trans (expect_out P c i).symm)) $$ [Hc HO Hat]
  · isplitr; · iapply (recs_at P K (mem_out c i)); iexact Hrec
    isplitl [Hc]; · iexact Hc
    isplitl [HO]; · iexact HO
    isplitr; · rw [dues, MayWait_zero]; iempintro
    iexact Hat
  iintro ⟨HO, Hat, -, Hpay⟩
  ihave Hs := (Entails.of_eq (rest_out P c i)) $$ Hpay
  unfold outPay
  icases Hs with ⟨Ho, Hs⟩
  imod (close P (outCell c i) (K (outCell c i))) $$ [Hat] with Hv
  · isplitr; · iapply (recs_at P K (mem_out c i)); iexact Hrec
    iexact Hat
  iapply Hk
  isplitr [HO]
  · unfold doneRes
    isplitl [Ho]; · iexact Ho
    isplitl [Hs] <;> iassumption
  iexists _; iexact HO

end Rules

end Cert.Exchange

end
-- ==== Proof.Phases.lean ====
/- Each phase of the exchange, over all its chunks, from the rule for one. -/
module

public import proofs.«01_k».proof.Proof.Rules

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One rule for all entries of a list -/

/-- If a step at `i` turns `A i` into `B i` while a state `J` shrinks by `i`, then the steps for a list turn all `A` into all `B`. -/
theorem each_rule {ι : Type} (c : Dev nD) (step : ι → Code F → Code F) (R : sProp 𝕄) [BI.Persistent R] (A B : ι → sProp 𝕄) (J : List ι → sProp 𝕄)
    (Q : PUnit → sProp 𝕄) (ok : List ι → Prop) (hok : ∀ i l, ok (i :: l) → ok l)
    (h : ∀ i l rest, ok (i :: l) → (iprop(R ∗ A i ∗ J (i :: l)) : sProp 𝕄) ⊢ iprop((iprop(B i ∗ J l) -∗ run c rest Q) -∗ run c (step i rest) Q))
    (l : List ι) (hl : ok l) (rest : Code F) :
    (iprop(R ∗ bigSepL l A ∗ J l) : sProp 𝕄) ⊢ iprop((iprop(bigSepL l B ∗ J []) -∗ run c rest Q) -∗ run c (each step l rest) Q) := by
  induction l with
  | nil =>
    iintro ⟨#HR, HA, HJ⟩ Hk
    iapply Hk
    isplitl [HA]; · iexact HA
    iexact HJ
  | cons i l ih =>
    rw [bigSepL_cons', bigSepL_cons']
    iintro ⟨#HR, ⟨HA, HAs⟩, HJ⟩ Hk
    iapply (h i l (each step l rest) hl) $$ [HA HJ]
    · isplitr; · iexact HR
      isplitl [HA] <;> iassumption
    iintro ⟨HB, HJ⟩
    iapply (ih (hok i l hl)) $$ [HAs HJ]
    · isplitr; · iexact HR
      isplitl [HAs] <;> iassumption
    iintro ⟨HBs, HJ⟩
    iapply Hk
    isplitr [HJ]
    · isplitl [HB] <;> iassumption
    iexact HJ

/-- Steps that agree at every entry of the list. -/
theorem each_congr {ι : Type} {s t : ι → Code F → Code F} {l : List ι} (h : ∀ i ∈ l, s i = t i) (rest : Code F) : each s l rest = each t l rest := by
  induction l with
  | nil => rfl
  | cons i l ih =>
    show s i (each s l rest) = t i (each t l rest)
    rw [ih fun k hk => h k (List.mem_cons_of_mem _ hk), h i List.mem_cons_self]

/-! ## Families over chunks and over transfers -/

abbrev all8 (Φ : Fin 8 → sProp 𝕄) : sProp 𝕄 := bigSep Finset.univ Φ
abbrev all16 (Φ : Fin 16 → sProp 𝕄) : sProp 𝕄 := bigSep Finset.univ Φ

theorem all8_chunks (Φ : Fin 8 → sProp 𝕄) : all8 Φ = bigSepL chunks Φ := bigSep_univ_eq_bigSepL chunks (by decide) (by decide) Φ
theorem all8_batches (Φ : Fin 8 → sProp 𝕄) : all8 Φ = iprop(bigSepL batch0 Φ ∗ bigSepL batch1 Φ) := by
  rw [all8_chunks, ← bigSepL_append]; rfl
/-- The transfers are the first and the second ones of all chunks. -/
theorem all16_pairs (Φ : Fin 16 → sProp 𝕄) : all16 Φ = iprop(all8 (fun i => Φ (fst1 i)) ∗ all8 fun i => Φ (snd2 i)) := by
  rw [all8_chunks, all8_chunks, ← bigSepL_map fst1 chunks Φ, ← bigSepL_map snd2 chunks Φ, ← bigSepL_append]
  exact bigSep_univ_eq_bigSepL (firsts ++ seconds) (by decide) (by decide) Φ

section Phases

variable (P : Dev nD → Fin 8 → Vec F S1x32x512 .bf16) (K : GSem nD τ sig → ℕ) (c : Dev nD)

/-- The first exchange of a list of chunks, with later transfers `t` still owed. -/
theorem step1_all (Q : PUnit → sProp 𝕄) (l : List (Fin 8)) (t : List (Fin 16)) (rest : Code F) :
    iprop(recs P K ∗ bigSepL l (fun i => iprop(slotAny c (own (fst1 i)) fullShare ∗ sendRes c (fst1 i))) ∗ Ow c (l.map fst1 ++ t))
      ⊢ iprop((iprop(bigSepL l (fun i => sentRes P c (fst1 i)) ∗ Ow c t) -∗ run c rest Q)
          -∗ run c (each (fun i => step1 (dev1 c i) i (P c i)) l rest) Q) :=
  each_rule c _ (recs P K) _ _ (fun l => Ow c (l.map fst1 ++ t)) Q (fun _ => True) (fun _ _ _ => trivial)
    (fun i l rest _ => step1_rule P K c Q i (l.map fst1 ++ t) rest) l trivial rest

/-- The second exchange of all chunks. -/
theorem step2_all (Q : PUnit → sProp 𝕄) (rest : Code F) :
    iprop(iprop(recs P K ∗ levAts L lv)
        ∗ all8 (fun i => iprop(sentRes P c (fst1 i) ∗ recvRes c (fst1 i) ∗ slotAny c (own (snd2 i)) fullShare ∗ sendRes c (snd2 i))) ∗ Ow c seconds)
      ⊢ iprop((iprop(all8 (fun i => iprop(sentRes P c (fst1 i) ∗ gotRes P c (fst1 i) ∗ sentRes P c (snd2 i))) ∗ Ow c []) -∗ run c rest Q)
          -∗ run c (each (fun i => step2 (dev2 c i) i) chunks rest) Q) := by
  rw [all8_chunks, all8_chunks]
  refine each_rule c _ _ _ _ (fun l => Ow c (l.map snd2)) Q (fun _ => True) (fun _ _ _ => trivial) (fun i l rest _ => ?_) chunks trivial rest
  refine BIBase.Entails.trans ?_ (step2_rule P K c Q i (l.map snd2) (fun k hk => by
    obtain ⟨j, -, rfl⟩ := List.mem_map.mp hk
    show (2 * j.val + 1) % 2 = 1; omega) rest)
  iintro ⟨⟨#Hrec, #Hlev⟩, HA, HO⟩
  isplitr; · iexact Hrec
  isplitr; · iexact Hlev
  isplitl [HA]; · iexact HA
  iexact HO

/-- The sums of all chunks and their copies. -/
theorem step3_all (Q : PUnit → sProp 𝕄) (rest : Code F) :
    iprop(iprop(recs P K ∗ levAts L lv) ∗ all8 (fun i => iprop(sentRes P c (snd2 i) ∗ recvRes c (snd2 i) ∗ outRes c i)) ∗ Ow c [])
      ⊢ iprop((iprop(all8 (fun i => iprop(sentRes P c (snd2 i) ∗ gotRes P c (snd2 i) ∗ copyRes c i)) ∗ Ow c []) -∗ run c rest Q)
          -∗ run c (each step3 chunks rest) Q) := by
  rw [all8_chunks, all8_chunks]
  refine each_rule c _ _ _ _ (fun _ => Ow c []) Q (fun _ => True) (fun _ _ _ => trivial) (fun i l rest _ => ?_) chunks trivial rest
  refine BIBase.Entails.trans ?_ (step3_rule P K c Q i rest)
  iintro ⟨⟨#Hrec, #Hlev⟩, HA, HO⟩
  isplitr; · iexact Hrec
  isplitr; · iexact Hlev
  isplitl [HA]; · iexact HA
  iexact HO

/-- The waits for all copies. -/
theorem waitOut_all (Q : PUnit → sProp 𝕄) (rest : Code F) :
    iprop(recs P K ∗ all8 (fun i => iprop(copyRes c i ∗ atPos ER (outCell c i) 0 ∅ 0)) ∗ Ow c [])
      ⊢ iprop((iprop(all8 (fun i => doneRes P c i) ∗ Ow c []) -∗ run c rest Q) -∗ run c (each waitOut chunks rest) Q) := by
  rw [all8_chunks, all8_chunks]
  exact each_rule c _ _ _ _ (fun _ => Ow c []) Q (fun _ => True) (fun _ _ _ => trivial) (fun i l rest _ => waitOut_rule P K c Q i rest) chunks trivial rest

/-- The waits for the departures of one transfer of every chunk. -/
theorem waitSend_all (Q : PUnit → sProp 𝕄) (g : Fin 8 → Fin 16) (rest : Code F) :
    iprop(recs P K ∗ all8 (fun i => iprop(sentRes P c (g i) ∗ atPos ER (sendCell c (g i)) 0 ∅ 0)) ∗ Ow c [])
      ⊢ iprop((iprop(all8 (fun i => iprop(slotAny (F := F) c (own (g i)) fullShare ∗ semVal (sendCell c (g i)) 0)) ∗ Ow c []) -∗ run c rest Q)
          -∗ run c (each waitSend (chunks.map g) rest) Q) := by
  rw [all8_chunks, all8_chunks, ← bigSepL_map g chunks fun k => iprop(sentRes P c k ∗ atPos ER (sendCell c k) 0 ∅ 0),
    ← bigSepL_map g chunks fun k => iprop(slotAny (F := F) c (own k) fullShare ∗ semVal (sendCell c k) 0)]
  exact each_rule c _ _ _ _ (fun _ => Ow c []) Q (fun _ => True) (fun _ _ _ => trivial) (fun k _ rest _ => waitSend_rule P K c Q k rest) _ trivial rest

/-- What the tail takes, beside the sums' buffers and the chunks of the result: per transfer and per chunk. -/
def tailRes (i : Fin 8) : sProp 𝕄 :=
  iprop(sentRes P c (fst1 i) ∗ recvRes c (fst1 i) ∗ slotAny c (own (snd2 i)) fullShare ∗ sendRes c (snd2 i) ∗ recvRes c (snd2 i) ∗ outRes c i
    ∗ atPos ER (outCell c i) 0 ∅ 0 ∗ atPos ER (sendCell c (fst1 i)) 0 ∅ 0 ∗ atPos ER (sendCell c (snd2 i)) 0 ∅ 0)
/-- What a transfer leaves: both its slots, its counters at rest. -/
def restedRes (k : Fin 16) : sProp 𝕄 :=
  iprop(slotAny (F := F) c (own k) fullShare ∗ semVal (sendCell c k) 0 ∗ slotAny (F := F) c (got k) fullShare ∗ semVal (recvCell c k) 0)

theorem gotRes_any (k : Fin 16) : gotRes P c k ⊢ iprop(slotAny (F := F) c (got k) fullShare ∗ semVal (recvCell c k) 0) := by
  unfold gotRes
  iintro ⟨Hs, Hv⟩
  isplitl [Hs]; · iexists _; iexact Hs
  iexact Hv

theorem restedRes_one (k : Fin 16) :
    iprop(iprop(slotAny (F := F) c (own k) fullShare ∗ semVal (sendCell c k) 0) ∗ gotRes P c k) ⊢ restedRes (F := F) c k := by
  unfold restedRes
  iintro ⟨⟨Ho, Hv⟩, Hg⟩
  ihave Hg' := (gotRes_any P c k) $$ Hg
  icases Hg' with ⟨Hg, Hw⟩
  isplitl [Ho]; · iexact Ho
  isplitl [Hv]; · iexact Hv
  isplitl [Hg] <;> iassumption

theorem restedRes_all (g : Fin 8 → Fin 16) :
    iprop(all8 (fun i => iprop(slotAny (F := F) c (own (g i)) fullShare ∗ semVal (sendCell c (g i)) 0)) ∗ all8 (fun i => gotRes P c (g i)))
      ⊢ all8 fun i => restedRes (F := F) c (g i) := by
  unfold all8
  rw [← bigSep_sep']
  exact bigSep_mono fun i _ => restedRes_one P c (g i)

/-- The tail of the body. -/
theorem tail_rule (Q : PUnit → sProp 𝕄) :
    iprop(recs P K ∗ levAts L lv ∗ all8 (fun i => tailRes P c i) ∗ Ow c seconds)
      ⊢ iprop((iprop(all8 (fun i => doneRes P c i) ∗ all16 (fun k => restedRes (F := F) c k) ∗ Ow c []) -∗ run c (.ret ⟨⟩) Q)
          -∗ run c (tail c) Q) := by
  unfold tailRes tail
  simp only [bigSep_sep']
  iintro ⟨#Hrec, #Hlev, ⟨Hs1, Hr1, Ho2, Hd2, Hr2, Hout, Hpo, Hp1, Hp2⟩, HO⟩ Hk
  iapply (step2_all P K c Q _) $$ [Hs1 Hr1 Ho2 Hd2 HO]
  · isplitr; · isplitr; · iexact Hrec
               iexact Hlev
    simp only [bigSep_sep']
    isplitr [HO]
    · isplitl [Hs1]; · iexact Hs1
      isplitl [Hr1]; · iexact Hr1
      isplitl [Ho2] <;> iassumption
    iexact HO
  simp only [bigSep_sep']
  iintro ⟨⟨Hs1, Hg1, Hs2⟩, HO⟩
  iapply (step3_all P K c Q _) $$ [Hs2 Hr2 Hout HO]
  · isplitr; · isplitr; · iexact Hrec
               iexact Hlev
    simp only [bigSep_sep']
    isplitr [HO]
    · isplitl [Hs2]; · iexact Hs2
      isplitl [Hr2] <;> iassumption
    iexact HO
  simp only [bigSep_sep']
  iintro ⟨⟨Hs2, Hg2, Hcp⟩, HO⟩
  iapply (waitOut_all P K c Q _) $$ [Hcp Hpo HO]
  · isplitr; · iexact Hrec
    simp only [bigSep_sep']
    isplitr [HO]
    · isplitl [Hcp] <;> iassumption
    iexact HO
  iintro ⟨Hdone, HO⟩
  iapply (waitSend_all P K c Q fst1 _) $$ [Hs1 Hp1 HO]
  · isplitr; · iexact Hrec
    isplitr [HO]
    · unfold all8; rw [bigSep_sep']
      isplitl [Hs1] <;> iassumption
    iexact HO
  iintro ⟨He1, HO⟩
  iapply (waitSend_all P K c Q snd2 _) $$ [Hs2 Hp2 HO]
  · isplitr; · iexact Hrec
    isplitr [HO]
    · unfold all8; rw [bigSep_sep']
      isplitl [Hs2] <;> iassumption
    iexact HO
  iintro ⟨He2, HO⟩
  iapply Hk
  isplitl [Hdone]; · iexact Hdone
  isplitr [HO]
  · rw [all16_pairs]
    isplitl [He1 Hg1]
    · iapply (restedRes_all P c fst1)
      isplitl [He1] <;> iassumption
    · iapply (restedRes_all P c snd2)
      isplitl [He2] <;> iassumption
  iexact HO

end Phases

end Cert.Exchange

end
-- ==== Proof.Body.lean ====
/- The body of the kernel on one device, from what the launch gives it to what it leaves. -/
module

public import proofs.«01_k».proof.Proof.Phases

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device computes before the exchange -/

/-- What the five windows of a device hold: the tokens, the query weights, the keys and the values of its heads, the output weights. -/
structure Inputs (F : FTy → Type) [FloatOps F] where
  x : Vec F S256x512 .f32
  w : Vec F S512x256 .f32
  k : Vec F S2x4x128x64 .f32
  v : Vec F S2x4x128x64 .f32
  o : Vec F S256x512 .f32

/-- One head of one batch. -/
def headOf (b : Fin 2) (h : Fin 4) (f : Vec F S2x4x128x64 .f32) : Vec F S1x1x128x64 .f32 := fun j => f ((kvR b h).emb j)

/-- A device's partial result for either batch. -/
def partialOf (I : Inputs F) (b : Fin 2) : FVec F S128x512 .f32 :=
  if b = 0 then part0 I.x I.w (headOf 0 0 I.k) (headOf 0 1 I.k) (headOf 0 2 I.k) (headOf 0 3 I.k)
    (headOf 0 0 I.v) (headOf 0 1 I.v) (headOf 0 2 I.v) (headOf 0 3 I.v) I.o
  else part1 I.x I.w (headOf 1 0 I.k) (headOf 1 1 I.k) (headOf 1 2 I.k) (headOf 1 3 I.k)
    (headOf 1 0 I.v) (headOf 1 1 I.v) (headOf 1 2 I.v) (headOf 1 3 I.v) I.o

/-- Chunk `i` of it: 32 rows of one batch. -/
def chunkOf (I : Inputs F) (i : Fin 8) : Vec F S1x32x512 .bf16 :=
  cut ⟨i.val % 4, Nat.mod_lt _ (by decide)⟩ (partialOf I ⟨i.val / 4, by omega⟩)

/-! ## Reading the windows -/

section Loads

variable (c : Dev nD)

abbrev pt (b : Ref sig .tc) (f : b.ty.Contents (Elt F)) : sProp 𝕄 := (Memref.whole b).view.loc (c : Thread nD τ) ↦{fullShare} f

theorem offsets_zero : (![0, 0] : Fin 2 → Nat) = fun _ => 0 := by funext a; fin_cases a <;> rfl

theorem loadX_rule (Q : PUnit → sProp 𝕄) (f : Vec F S256x512 .f32) (rest : Vec F S256x512 .f32 → Code F) :
    pt c cc0_stg0_0 f ⊢ iprop((pt c cc0_stg0_0 f -∗ run c (rest f) Q) -∗ run c (loadX rest) Q) := by
  iintro H Hk
  iapply (wp_load 𝒱₀ (c : Thread nD τ) none Set.univ (m := xM) (S := Finset.univ) (q := fullShare) (f := f) (Finset.subset_univ _)) $$ H
  iintro H
  rw [show View.readAt (Elt F) xM.view (Rect.unit (s := S256x512) ![0, 0] S256x512.size inb_S256x512_S256x512_0_0).toLoadRect f = f from
    Memref.readAt_unit_zero (Elt F) cc0_stg0_0 offsets_zero inb_S256x512_S256x512_0_0 f]
  iapply Hk
  iexact H

theorem loadWq_rule (Q : PUnit → sProp 𝕄) (f : Vec F S512x256 .f32) (rest : Vec F S512x256 .f32 → Code F) :
    pt c cc0_stg1_0 f ⊢ iprop((pt c cc0_stg1_0 f -∗ run c (rest f) Q) -∗ run c (loadWq rest) Q) := by
  iintro H Hk
  iapply (wp_load 𝒱₀ (c : Thread nD τ) none Set.univ (m := wqM) (S := Finset.univ) (q := fullShare) (f := f) (Finset.subset_univ _)) $$ H
  iintro H
  rw [show View.readAt (Elt F) wqM.view (Rect.unit (s := S512x256) ![0, 0] S512x256.size inb_S512x256_S512x256_0_0).toLoadRect f = f from
    Memref.readAt_unit_zero (Elt F) cc0_stg1_0 offsets_zero inb_S512x256_S512x256_0_0 f]
  iapply Hk
  iexact H

theorem loadWo_rule (Q : PUnit → sProp 𝕄) (f : Vec F S256x512 .f32) (rest : Vec F S256x512 .f32 → Code F) :
    pt c cc0_stg4_0 f ⊢ iprop((pt c cc0_stg4_0 f -∗ run c (rest f) Q) -∗ run c (loadWo rest) Q) := by
  iintro H Hk
  iapply (wp_load 𝒱₀ (c : Thread nD τ) none Set.univ (m := woM) (S := Finset.univ) (q := fullShare) (f := f) (Finset.subset_univ _)) $$ H
  iintro H
  rw [show View.readAt (Elt F) woM.view (Rect.unit (s := S256x512) ![0, 0] S256x512.size inb_S256x512_S256x512_0_0).toLoadRect f = f from
    Memref.readAt_unit_zero (Elt F) cc0_stg4_0 offsets_zero inb_S256x512_S256x512_0_0 f]
  iapply Hk
  iexact H

theorem loadK_rule (Q : PUnit → sProp 𝕄) (b : Fin 2) (h : Fin 4) (f : Vec F S2x4x128x64 .f32) (rest : Vec F S1x1x128x64 .f32 → Code F) :
    pt c cc0_stg2_0 f ⊢ iprop((pt c cc0_stg2_0 f -∗ run c (rest (headOf b h f)) Q) -∗ run c (loadK b h rest) Q) := by
  iintro H Hk
  iapply (wp_load_rect 𝒱₀ (c : Thread nD τ) none Set.univ (m := kM) (r := kvR b h) (S := Finset.univ) (q := fullShare) (f := f) (Finset.subset_univ _)) $$ H
  iintro H
  rw [show ((kM.access (kvR b h)).read (Elt F) f) = headOf b h f from rfl]
  iapply Hk
  iexact H

theorem loadV_rule (Q : PUnit → sProp 𝕄) (b : Fin 2) (h : Fin 4) (f : Vec F S2x4x128x64 .f32) (rest : Vec F S1x1x128x64 .f32 → Code F) :
    pt c cc0_stg3_0 f ⊢ iprop((pt c cc0_stg3_0 f -∗ run c (rest (headOf b h f)) Q) -∗ run c (loadV b h rest) Q) := by
  iintro H Hk
  iapply (wp_load_rect 𝒱₀ (c : Thread nD τ) none Set.univ (m := vM) (r := kvR b h) (S := Finset.univ) (q := fullShare) (f := f) (Finset.subset_univ _)) $$ H
  iintro H
  rw [show ((vM.access (kvR b h)).read (Elt F) f) = headOf b h f from rfl]
  iapply Hk
  iexact H

/-- All heads of a batch, keys and values. -/
theorem heads_rule (Q : PUnit → sProp 𝕄) (b : Fin 2) (f g : Vec F S2x4x128x64 .f32)
    (rest : (k0 k1 k2 k3 v0 v1 v2 v3 : Vec F S1x1x128x64 .f32) → Code F) :
    iprop(pt c cc0_stg2_0 f ∗ pt c cc0_stg3_0 g)
      ⊢ iprop((iprop(pt c cc0_stg2_0 f ∗ pt c cc0_stg3_0 g) -∗ run c (rest (headOf b 0 f) (headOf b 1 f) (headOf b 2 f) (headOf b 3 f)
            (headOf b 0 g) (headOf b 1 g) (headOf b 2 g) (headOf b 3 g)) Q)
          -∗ run c (loadK b 0 fun k0 => loadK b 1 fun k1 => loadK b 2 fun k2 => loadK b 3 fun k3 =>
            loadV b 0 fun v0 => loadV b 1 fun v1 => loadV b 2 fun v2 => loadV b 3 fun v3 => rest k0 k1 k2 k3 v0 v1 v2 v3) Q) := by
  iintro ⟨Hf, Hg⟩ Hk
  iapply (loadK_rule c Q b 0 f _) $$ Hf; iintro Hf
  iapply (loadK_rule c Q b 1 f _) $$ Hf; iintro Hf
  iapply (loadK_rule c Q b 2 f _) $$ Hf; iintro Hf
  iapply (loadK_rule c Q b 3 f _) $$ Hf; iintro Hf
  iapply (loadV_rule c Q b 0 g _) $$ Hg; iintro Hg
  iapply (loadV_rule c Q b 1 g _) $$ Hg; iintro Hg
  iapply (loadV_rule c Q b 2 g _) $$ Hg; iintro Hg
  iapply (loadV_rule c Q b 3 g _) $$ Hg; iintro Hg
  iapply Hk
  isplitl [Hf] <;> iassumption

end Loads

/-! ## The handshake -/

section Run

variable (P : Dev nD → Fin 8 → Vec F S1x32x512 .bf16) (K : GSem nD τ sig → ℕ) (c : Dev nD)

/-- A device's slots to be filled by its two neighbours. -/
def lent (b : Bool) : sProp 𝕄 :=
  bigSep (Finset.univ.filter fun k => side k = b) fun k => iprop(slotAny (F := F) c (got k) fullShare ∗ reached ER (recvCell c k) 0)

theorem lent_split : all16 (fun k => iprop(slotAny (F := F) c (got k) fullShare ∗ reached ER (recvCell c k) 0)) = iprop(lent c false ∗ lent c true) := by
  unfold all16 lent
  rw [show (Finset.univ.filter fun k => side k = true) = Finset.univ.filter fun k => ¬ side k = false from by decide]
  exact bigSep_filter_split Finset.univ (fun k => side k = false)

theorem lent_pay (b : Bool) : lent (F := F) c b = barPay (nbr b c) b := by
  unfold lent barPay; rw [nbr_nbr]

theorem barPay_join : iprop(barPay (F := F) c false ∗ barPay c true)
    = all16 (fun k => iprop(slotAny (F := F) (peer k c) (got k) fullShare ∗ reached ER (recvCell (peer k c) k) 0)) := by
  have e (b : Bool) : barPay (F := F) c b = bigSep (Finset.univ.filter fun k => side k = b)
      fun k => iprop(slotAny (F := F) (peer k c) (got k) fullShare ∗ reached ER (recvCell (peer k c) k) 0) := by
    refine bigSep_congr fun k hk => ?_
    rw [peer, (Finset.mem_filter.mp hk).2]
  rw [e, e, show (Finset.univ.filter fun k => side k = true) = Finset.univ.filter fun k => ¬ side k = false from by decide]
  exact (bigSep_filter_split Finset.univ (fun k => side k = false)).symm

/-- The signal to a neighbour. -/
theorem signal_rule (Q : PUnit → sProp 𝕄) (b : Bool) (O : CellTallies nD τ sig Unit) (rest : PUnit → Code F) :
    iprop(recs P K ∗ lent c b ∗ dutyTok ER (barCell (nbr b c)) 0 b ∗ reached ER (barCell (nbr b c)) 0
        ∗ ∃ W, owes (c : Thread nD τ) (O + tallyAt (barCell (nbr b c)) () 1) W)
      ⊢ iprop((iprop(∃ W, owes (c : Thread nD τ) O W) -∗ run c (rest ⟨⟩) Q)
          -∗ run c (.op (.semSignal (Dev.tc (nbr b c)) barS 1) rest) Q) := by
  iintro ⟨#Hrec, Hl, Ht, #Hr, ⟨%W, HO⟩⟩ Hk
  iapply (Rounds.wp_signal 𝒱₀ ER (Rd P) (c : Thread nD τ) none (dst := (nbr b c : Thread nD τ)) (sem := barS) (r := 0) (d := b) (k' := 1)
      (κ := K (barCell (nbr b c))) (by rw [duties_bar]; cases b <;> decide) (amount_bar P (nbr b c) b) () O rfl (W := W)) $$ [Hl Ht HO]
  · isplitr; · iapply (recs_at P K (mem_bar (nbr b c))); iexact Hrec
    isplitl [HO]; · iexact HO
    isplitl [Ht]; · iexact Ht
    isplitl [Hl]; · rw [payload_bar, ← lent_pay]; iexact Hl
    iexact Hr
  iintro HO
  iapply Hk
  iexists W; iexact HO

/-- The wait for both neighbours. -/
theorem barrier_rule (Q : PUnit → sProp 𝕄) (rest : PUnit → Code F) :
    iprop(recs P K ∗ levAts L lv ∗ cred (tallyAt (barCell c) () 2) ∗ atPos ER (barCell c) 0 ∅ 0 ∗ Ow c (firsts ++ seconds))
      ⊢ iprop((iprop(all16 (fun k => iprop(slotAny (F := F) (peer k c) (got k) fullShare ∗ reached ER (recvCell (peer k c) k) 0))
            ∗ semVal (barCell c) 0 ∗ Ow c (firsts ++ seconds)) -∗ run c (rest ⟨⟩) Q)
          -∗ run c (.op (.semWait barS 2) rest) Q) := by
  unfold Ow
  iintro ⟨#Hrec, #Hlev, Hc, Hat, ⟨%W, HO⟩⟩ Hk
  iapply (Rounds.wp_wait_rest_token 𝒱₀ ER (Rd P) (c : Thread nD τ) none (κ := K (barCell c))
      (wpE_semWait_eq 𝒱₀ (c : Thread nD τ) none Set.univ) (Set.mem_univ _) ()
      (O := dues c (firsts ++ seconds)) (W := W) (R := 0) (m := 0) (T := ∅) ((Nat.zero_add _).trans (expect_bar P c).symm)) $$ [Hc HO Hat]
  · isplitr; · iapply (recs_at P K (mem_bar c)); iexact Hrec
    isplitl [Hc]; · iexact Hc
    isplitl [HO]; · iexact HO
    isplitr
    · iapply (mayWait_dues c (.reg barS) (firsts ++ seconds) (fun k _ => by rw [role_bar]; show 1 < 2 + _; omega)); iexact Hlev
    iexact Hat
  iintro ⟨HO, Hat, -, Hpay⟩
  ihave Hs := (Entails.of_eq ((rest_bar P c).trans (barPay_join c))) $$ Hpay
  imod (close P (barCell c) (K (barCell c))) $$ [Hat] with Hv
  · isplitr; · iapply (recs_at P K (mem_bar c)); iexact Hrec
    iexact Hat
  iapply Hk
  isplitl [Hs]; · iexact Hs
  isplitl [Hv]; · iexact Hv
  iexists _; iexact HO

/-! ## The whole body -/

/-- The protocol's part of what a device starts with: its rights to signal, to send and to copy, its own counters' positions, and the
    units it may wait for. -/
def ghostRes : sProp 𝕄 :=
  iprop((dutyTok ER (barCell (nbr false c)) 0 false ∗ dutyTok ER (barCell (nbr true c)) 0 true
      ∗ reached ER (barCell (nbr false c)) 0 ∗ reached ER (barCell (nbr true c)) 0
      ∗ atPos ER (barCell c) 0 ∅ 0 ∗ cred (tallyAt (barCell c) () 2))
    ∗ all16 (fun k => iprop(dutyTok ER (recvCell (peer k c) k) 0 false ∗ dutyTok ER (sendCell c k) 0 false ∗ reached ER (sendCell c k) 0
        ∗ reached ER (recvCell c k) 0 ∗ atPos ER (sendCell c k) 0 ∅ 0 ∗ recvRes c k))
    ∗ all8 (fun i => iprop(dutyTok ER (outCell c i) 0 false ∗ reached ER (outCell c i) 0 ∗ atPos ER (outCell c i) 0 ∅ 0)))
/-- The memory of the exchange at any contents. -/
def memRes : sProp 𝕄 :=
  iprop(all16 (fun k => iprop(slotAny (F := F) c (own k) fullShare ∗ slotAny (F := F) c (got k) fullShare))
    ∗ all8 (fun i => iprop(sumAny (F := F) c i ∗ outAny (F := F) c i)))
/-- The windows' contents. -/
def winRes (I : Inputs F) : sProp 𝕄 :=
  iprop(pt c cc0_stg0_0 I.x ∗ pt c cc0_stg1_0 I.w ∗ pt c cc0_stg2_0 I.k ∗ pt c cc0_stg3_0 I.v ∗ pt c cc0_stg4_0 I.o)
/-- What is left: every chunk of the result, the buffers, all counters at rest. -/
def endRes : sProp 𝕄 :=
  iprop(all8 (fun i => doneRes P c i) ∗ all16 (fun k => restedRes (F := F) c k) ∗ semVal (barCell c) 0)

end Run

/-- What one transfer takes after the handshake. -/
theorem startRes_one (c : Dev nD) (k : Fin 16) :
    iprop(iprop(dutyTok ER (recvCell (peer k c) k) 0 false ∗ dutyTok ER (sendCell c k) 0 false ∗ reached ER (sendCell c k) 0)
        ∗ iprop(slotAny (F := F) (peer k c) (got k) fullShare ∗ reached ER (recvCell (peer k c) k) 0)) ⊢ sendRes c k := by
  unfold sendRes
  iintro ⟨⟨Ht, Hu, Hr⟩, ⟨Hs, Hq⟩⟩
  isplitl [Hs]; · iexact Hs
  isplitl [Hq]; · iexact Hq
  isplitl [Ht]; · iexact Ht
  isplitl [Hu] <;> iassumption
theorem startRes_all (c : Dev nD) :
    iprop(all16 (fun k => iprop(dutyTok ER (recvCell (peer k c) k) 0 false ∗ dutyTok ER (sendCell c k) 0 false ∗ reached ER (sendCell c k) 0))
        ∗ all16 (fun k => iprop(slotAny (F := F) (peer k c) (got k) fullShare ∗ reached ER (recvCell (peer k c) k) 0)))
      ⊢ all16 fun k => sendRes (F := F) c k := by
  unfold all16
  rw [← bigSep_sep']
  exact bigSep_mono fun k _ => startRes_one c k

variable (I : Dev nD → Inputs F)

/-- The kernel's body on device `c`: every chunk of the result ends at the full sum of the devices' chunks. -/
theorem body_rule (K : GSem nD τ sig → ℕ) (c : Dev nD) (Q : PUnit → sProp 𝕄) :
    iprop(recs (fun d => chunkOf (I d)) K ∗ levAts L lv ∗ ghostRes (F := F) c ∗ memRes (F := F) c ∗ winRes c (I c) ∗ ∃ W, owes (c : Thread nD τ) (O₀ c) W)
      ⊢ iprop((iprop(endRes (fun d => chunkOf (I d)) c ∗ winRes c (I c) ∗ ∃ W, owes (c : Thread nD τ) 0 W) -∗ run c (.ret ⟨⟩) Q)
          -∗ run c flat Q) := by
  unfold flat ghostRes memRes winRes endRes
  unfold run; rw [wp_deviceId]
  simp only [devF_eq, devT_eq]
  simp only [bigSep_sep']
  iintro ⟨#Hrec, #Hlev, ⟨⟨HtF, HtT, #HrF, #HrT, Hatb, Hcb⟩, ⟨Htr, Hts, Hrs, Hrr, Hps, Hrecv⟩, ⟨Hto, Hro, Hpo⟩⟩, ⟨⟨Hown, Hgot⟩, ⟨Hsum, Hout⟩⟩,
    ⟨Hx, Hw, Hkk, Hvv, Ho⟩, HO⟩ Hk
  ihave Hlent := (Entails.of_eq ((bigSep_sep' Finset.univ (fun k : Fin 16 => slotAny (F := F) c (got k) fullShare)
    (fun k => reached ER (recvCell c k) 0)).symm.trans (lent_split (F := F) c))) $$ [Hgot Hrr]
  · isplitl [Hgot] <;> iassumption
  icases Hlent with ⟨HlF, HlT⟩
  iapply (signal_rule (fun d => chunkOf (I d)) K c Q false (dues c (firsts ++ seconds) + tallyAt (barCell (nbr true c)) () 1) _) $$ [HlF HtF HO]
  · isplitr; · iexact Hrec
    isplitl [HlF]; · iexact HlF
    isplitl [HtF]; · iexact HtF
    isplitr; · iexact HrF
    iexact HO
  iintro HO
  iapply (signal_rule (fun d => chunkOf (I d)) K c Q true (dues c (firsts ++ seconds)) _) $$ [HlT HtT HO]
  · isplitr; · iexact Hrec
    isplitl [HlT]; · iexact HlT
    isplitl [HtT]; · iexact HtT
    isplitr; · iexact HrT
    iexact HO
  iintro HO
  iapply (loadX_rule c Q (I c).x _) $$ Hx; iintro Hx
  iapply (loadWq_rule c Q (I c).w _) $$ Hw; iintro Hw
  iapply (heads_rule c Q 0 (I c).k (I c).v _) $$ [Hkk Hvv]
  · isplitl [Hkk] <;> iassumption
  iintro ⟨Hkk, Hvv⟩
  iapply (loadWo_rule c Q (I c).o _) $$ Ho; iintro Ho
  iapply (barrier_rule (fun d => chunkOf (I d)) K c Q _) $$ [Hcb Hatb HO]
  · isplitr; · iexact Hrec
    isplitr; · iexact Hlev
    isplitl [Hcb]; · iexact Hcb
    isplitl [Hatb]; · iexact Hatb
    unfold Ow; iexact HO
  iintro ⟨Hpeer, Hbar, HO⟩
  ihave Hsend := (startRes_all (F := F) c) $$ [Htr Hts Hrs Hpeer]
  · isplitr [Hpeer]
    · unfold all16; simp only [bigSep_sep']
      isplitl [Htr]; · iexact Htr
      isplitl [Hts] <;> iassumption
    iexact Hpeer
  ihave Hsend' := (Entails.of_eq (all16_pairs (fun k => sendRes (F := F) c k))) $$ Hsend
  icases Hsend' with ⟨Hsend1, Hsend2⟩
  ihave Hown' := (Entails.of_eq (all16_pairs (fun k => slotAny (F := F) c (own k) fullShare))) $$ Hown
  icases Hown' with ⟨Hown1, Hown2⟩
  ihave Hrecv' := (Entails.of_eq (all16_pairs (fun k => recvRes (F := F) c k))) $$ Hrecv
  icases Hrecv' with ⟨Hrecv1, Hrecv2⟩
  ihave Hps' := (Entails.of_eq (all16_pairs (fun k => (atPos ER (sendCell c k) 0 ∅ 0 : sProp 𝕄)))) $$ Hps
  icases Hps' with ⟨Hps1, Hps2⟩
  ihave Hone := (Entails.of_eq ((bigSep_sep' Finset.univ (fun i : Fin 8 => slotAny (F := F) c (own (fst1 i)) fullShare)
    (fun i => sendRes (F := F) c (fst1 i))).symm.trans (all8_batches _))) $$ [Hown1 Hsend1]
  · isplitl [Hown1] <;> iassumption
  icases Hone with ⟨Hone0, Hone1⟩
  rw [each_congr (l := batch0) (t := fun i => step1 (dev1 c i) i (chunkOf (I c) i)) (fun i hi => by
    fin_cases hi <;> rfl)]
  iapply (step1_all (fun d => chunkOf (I d)) K c Q batch0 (batch1.map fst1 ++ seconds) _) $$ [Hone0 HO]
  · isplitr; · iexact Hrec
    isplitl [Hone0]; · iexact Hone0
    iexact HO
  iintro ⟨Hsent0, HO⟩
  iapply (heads_rule c Q 1 (I c).k (I c).v _) $$ [Hkk Hvv]
  · isplitl [Hkk] <;> iassumption
  iintro ⟨Hkk, Hvv⟩
  iapply (loadWo_rule c Q (I c).o _) $$ Ho; iintro Ho
  rw [each_congr (l := batch1) (t := fun i => step1 (dev1 c i) i (chunkOf (I c) i)) (fun i hi => by
    fin_cases hi <;> rfl)]
  iapply (step1_all (fun d => chunkOf (I d)) K c Q batch1 seconds _) $$ [Hone1 HO]
  · isplitr; · iexact Hrec
    isplitl [Hone1]; · iexact Hone1
    iexact HO
  iintro ⟨Hsent1, HO⟩
  ihave Hsent := (Entails.of_eq (all8_batches (fun i => sentRes (fun d => chunkOf (I d)) c (fst1 i))).symm) $$ [Hsent0 Hsent1]
  · isplitl [Hsent0] <;> iassumption
  iapply (tail_rule (fun d => chunkOf (I d)) K c Q) $$ [Hsent Hrecv1 Hown2 Hsend2 Hrecv2 Hsum Hout Hto Hro Hpo Hps1 Hps2 HO]
  · isplitr; · iexact Hrec
    isplitr; · iexact Hlev
    isplitr [HO]
    · unfold all8 tailRes outRes
      simp only [bigSep_sep']
      isplitl [Hsent]; · iexact Hsent
      isplitl [Hrecv1]; · iexact Hrecv1
      isplitl [Hown2]; · iexact Hown2
      isplitl [Hsend2]; · iexact Hsend2
      isplitl [Hrecv2]; · iexact Hrecv2
      isplitr [Hpo Hps1 Hps2]
      · isplitl [Hsum]; · iexact Hsum
        isplitl [Hout]; · iexact Hout
        isplitl [Hto] <;> iassumption
      isplitl [Hpo]; · iexact Hpo
      isplitl [Hps1] <;> iassumption
    iexact HO
  iintro ⟨Hdone, Hrest, HO⟩
  iapply Hk
  isplitl [Hdone Hrest Hbar]
  · isplitl [Hdone]; · iexact Hdone
    isplitl [Hrest] <;> iassumption
  isplitr [HO]
  · isplitl [Hx]; · iexact Hx
    isplitl [Hw]; · iexact Hw
    isplitl [Hkk]; · iexact Hkk
    isplitl [Hvv] <;> iassumption
  unfold Ow
  iexact HO

end Cert.Exchange

end
-- ==== Proof.Memory.lean ====
/- The buffers of the exchange cut into their slots, and put together again. -/
module

public import proofs.«01_k».proof.Proof.Body
public import Idealize.ShloMosaic.Lib.Pipeline.ValueKit.Geometry
public import Idealize.ShloMosaic.Lib.ValueIdxCore

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rectangles are disjoint and cover their buffers -/

theorem slot_disj (k k' : Fin 32) (h : k ≠ k') : Disjoint (slotR k).set (slotR k').set := by
  refine Rect.unit_disjoint (s := S32x32x512) 0 ?_
  have : k.val ≠ k'.val := fun e => h (Fin.ext e)
  show k.val + 1 ≤ k'.val ∨ k'.val + 1 ≤ k.val
  omega

theorem slot_cover : (Finset.univ : Finset (Fin 32)).biUnion (fun k => (slotR k).set) = Finset.univ := by
  ext p
  simp only [Finset.mem_biUnion, Finset.mem_univ, true_and, iff_true]
  refine ⟨⟨(p 0).val, (p 0).isLt⟩, Rect.mem_set_unit.mpr fun a => ?_⟩
  match a with
  | ⟨0, _⟩ => exact ⟨Nat.le_refl _, Nat.lt_succ_self _⟩
  | ⟨1, h⟩ => exact ⟨Nat.zero_le _, by show _ < 0 + 32; have : (p ⟨1, h⟩).val < 32 := (p ⟨1, h⟩).isLt; omega⟩
  | ⟨2, h⟩ => exact ⟨Nat.zero_le _, by show _ < 0 + 512; have : (p ⟨2, h⟩).val < 512 := (p ⟨2, h⟩).isLt; omega⟩

theorem sum_disj (i i' : Fin 8) (h : i ≠ i') : Disjoint (sumR i).set (sumR i').set := by
  refine Rect.unit_disjoint (s := S8x32x512) 0 ?_
  have : i.val ≠ i'.val := fun e => h (Fin.ext e)
  show i.val + 1 ≤ i'.val ∨ i'.val + 1 ≤ i.val
  omega

theorem sum_cover : (Finset.univ : Finset (Fin 8)).biUnion (fun i => (sumR i).set) = Finset.univ := by
  ext p
  simp only [Finset.mem_biUnion, Finset.mem_univ, true_and, iff_true]
  refine ⟨⟨(p 0).val, (p 0).isLt⟩, Rect.mem_set_unit.mpr fun a => ?_⟩
  match a with
  | ⟨0, _⟩ => exact ⟨Nat.le_refl _, Nat.lt_succ_self _⟩
  | ⟨1, h⟩ => exact ⟨Nat.zero_le _, by show _ < 0 + 32; have : (p ⟨1, h⟩).val < 32 := (p ⟨1, h⟩).isLt; omega⟩
  | ⟨2, h⟩ => exact ⟨Nat.zero_le _, by show _ < 0 + 512; have : (p ⟨2, h⟩).val < 512 := (p ⟨2, h⟩).isLt; omega⟩

theorem out_disj (i i' : Fin 8) (h : i ≠ i') : Disjoint (outR i).set (outR i').set := by
  have h' : i.val ≠ i'.val := fun e => h (Fin.ext e)
  by_cases hq : i.val / 4 = i'.val / 4
  · refine Rect.unit_disjoint (s := S2x128x512) 1 ?_
    show 32 * (i.val % 4) + 32 ≤ 32 * (i'.val % 4) ∨ 32 * (i'.val % 4) + 32 ≤ 32 * (i.val % 4)
    omega
  · refine Rect.unit_disjoint (s := S2x128x512) 0 ?_
    show i.val / 4 + 1 ≤ i'.val / 4 ∨ i'.val / 4 + 1 ≤ i.val / 4
    omega

/-- The chunk of the result that holds an entry: batch and block of 32 rows. -/
def chunkAt (p : S2x128x512.Idx) : Fin 8 :=
  ⟨4 * (p 0).val + (p 1).val / 32, by
    have h0 : (p 0).val < 2 := (p 0).isLt
    have h1 : (p 1).val < 128 := (p 1).isLt
    omega⟩
/-- The place of the entry in its chunk. -/
def placeAt (p : S2x128x512.Idx) : S1x32x512.Idx :=
  ValueIdx.ix3 (n0 := 1) (n1 := 32) (n2 := 512) 0 ⟨(p 1).val % 32, Nat.mod_lt _ (by decide)⟩ (p 2)

/-- The result whose chunks are `x`. -/
def resultOf (x : Fin 8 → Vec F S1x32x512 .f32) : Vec F S2x128x512 .f32 := fun p => x (chunkAt p) (placeAt p)

theorem out_emb_val (i : Fin 8) (j : S1x32x512.Idx) (a : Fin 3) :
    ((outR i).emb j a).val = (![i.val / 4, 32 * (i.val % 4), 0] : Fin 3 → Nat) a + (j a).val :=
  ValueKit.rect_emb_unit_val (s := S2x128x512) _ _ _ j a

theorem resultOf_emb (x : Fin 8 → Vec F S1x32x512 .f32) (i : Fin 8) (j : S1x32x512.Idx) :
    resultOf x ((outR i).emb j) = x i j := by
  have h0 : ((outR i).emb j 0).val = i.val / 4 + (j 0).val := out_emb_val i j 0
  have h1 : ((outR i).emb j 1).val = 32 * (i.val % 4) + (j 1).val := out_emb_val i j 1
  have h2 : ((outR i).emb j 2).val = 0 + (j 2).val := out_emb_val i j 2
  have l0 : (j 0).val < 1 := (j 0).isLt
  have l1 : (j 1).val < 32 := (j 1).isLt
  have li : i.val < 8 := i.isLt
  have hc : chunkAt ((outR i).emb j) = i := Fin.ext (by
    show 4 * ((outR i).emb j 0).val + ((outR i).emb j 1).val / 32 = i.val
    rw [h0, h1]; omega)
  have hp : placeAt ((outR i).emb j) = j := by
    funext a
    match a with
    | ⟨0, _⟩ => exact Fin.ext (show 0 = (j 0).val by omega)
    | ⟨1, _⟩ => exact Fin.ext (show ((outR i).emb j 1).val % 32 = (j 1).val by rw [h1]; omega)
    | ⟨2, _⟩ => exact Fin.ext (show ((outR i).emb j 2).val = (j 2).val by rw [h2]; omega)
  unfold resultOf; rw [hc, hp]

theorem out_cover : (Finset.univ : Finset (Fin 8)).biUnion (fun i => (outR i).set) = Finset.univ := by
  ext p
  simp only [Finset.mem_biUnion, Finset.mem_univ, true_and, iff_true]
  have h0 : (p 0).val < 2 := (p 0).isLt
  have h1 : (p 1).val < 128 := (p 1).isLt
  have h2 : (p 2).val < 512 := (p 2).isLt
  refine ⟨chunkAt p, Rect.mem_set_unit.mpr fun a => ?_⟩
  match a with
  | ⟨0, _⟩ =>
    show (4 * (p 0).val + (p 1).val / 32) / 4 ≤ (p 0).val ∧ (p 0).val < (4 * (p 0).val + (p 1).val / 32) / 4 + 1
    omega
  | ⟨1, _⟩ =>
    show 32 * ((4 * (p 0).val + (p 1).val / 32) % 4) ≤ (p 1).val ∧ (p 1).val < 32 * ((4 * (p 0).val + (p 1).val / 32) % 4) + 32
    omega
  | ⟨2, _⟩ => show 0 ≤ (p 2).val ∧ (p 2).val < 0 + 512; omega

/-! ## A family of contents over disjoint rectangles comes from one contents of the whole -/

/-- Contents given rectangle by rectangle, over disjoint rectangles, are the parts of one contents. -/
theorem glue {s : Shape} {T : Type} (r : T → Rect s) (hd : ∀ t t', t ≠ t' → Disjoint (r t).set (r t').set)
    {V : Type} [Nonempty V] (X : (t : T) → (r t).shape.Idx → V) :
    ∃ g : s.Idx → V, ∀ t j, g ((r t).emb j) = X t j := by
  classical
  refine ⟨fun p => if h : ∃ tj : (t : T) × (r t).shape.Idx, (r tj.1).emb tj.2 = p then X h.choose.1 h.choose.2 else Classical.arbitrary V,
    fun t j => ?_⟩
  have h : ∃ tj : (t : T) × (r t).shape.Idx, (r tj.1).emb tj.2 = (r t).emb j := ⟨⟨t, j⟩, rfl⟩
  have mem : ∀ (t : T) (j : (r t).shape.Idx), (r t).emb j ∈ (r t).set := fun t j =>
    (r t).map_emb_univ ▸ Finset.mem_map_of_mem _ (Finset.mem_univ j)
  show (if h : ∃ tj : (t : T) × (r t).shape.Idx, (r tj.1).emb tj.2 = (r t).emb j then X h.choose.1 h.choose.2 else Classical.arbitrary V) = X t j
  rw [dif_pos h]
  have hs := h.choose_spec
  generalize h.choose = u at hs
  obtain ⟨t', j'⟩ := u
  by_cases e : t' = t
  · subst e; rw [(r t').emb.injective hs]
  · have := Finset.disjoint_left.mp (hd _ _ e) (mem t' j')
    exact absurd (mem t j) (hs ▸ this)

section Pieces

variable {T : Type} [Fintype T] [DecidableEq T] {S : Space} {sh : Shape} {e : EltTy} (c : Thread nD τ)

/-- A buffer held whole, at any contents, is its slots, each at any contents. -/
theorem pieces_split (m : Memref sig c.2.kind S sh e) (q : PosShare TreeShare) (r : T → Rect sh) (hr : ∀ t, ∀ a, (r t).stride a = 1)
    (hd : ∀ t t', t ≠ t' → Disjoint (r t).set (r t').set)
    (hcov : (Finset.univ : Finset T).biUnion (fun t => (r t).set) = Finset.univ) :
    (iprop(∃ X, owns c m q X) : sProp 𝕄) ⊢ bigSep Finset.univ fun t => iprop(∃ x, owns c (m.slice (r t) (hr t)) q x) := by
  have h0 (X : sh.Idx → Elt F e) (t : T) : (owns c (m.slice (r t) (hr t)) q (fun j => X ((r t).emb j)) : sProp 𝕄)
      ⊢ iprop(∃ x, owns c (m.slice (r t) (hr t)) q x) := by iintro H; iexists _; iexact H
  have h1 (X : sh.Idx → Elt F e) : bigSep Finset.univ (fun t => (owns c (m.slice (r t) (hr t)) q (fun j => X ((r t).emb j)) : sProp 𝕄))
      ⊢ bigSep Finset.univ fun t => iprop(∃ x, owns c (m.slice (r t) (hr t)) q x) := bigSep_mono fun t _ => h0 X t
  iintro ⟨%X, H⟩
  iapply (h1 X)
  iapply (owns_rects c m q r hr hd hcov X) $$ H

/-- The slots, each at any contents, are the buffer held whole at some contents. -/
theorem pieces_join (m : Memref sig c.2.kind S sh e) (q : PosShare TreeShare) (r : T → Rect sh) (hr : ∀ t, ∀ a, (r t).stride a = 1)
    (hd : ∀ t t', t ≠ t' → Disjoint (r t).set (r t').set)
    (hcov : (Finset.univ : Finset T).biUnion (fun t => (r t).set) = Finset.univ) :
    (bigSep Finset.univ fun t => iprop(∃ x, owns c (m.slice (r t) (hr t)) q x)) ⊢ (iprop(∃ X, owns c m q X) : sProp 𝕄) := by
  refine BIBase.Entails.trans (bigSep_exists_pi Finset.univ fun t x => owns c (m.slice (r t) (hr t)) q x) ?_
  iintro ⟨%x, H⟩
  obtain ⟨g, hg⟩ := glue (V := Elt F e) r hd x
  iexists g
  iapply (owns_of_rects c m q r hr hd hcov g)
  iapply (Entails.of_eq (bigSep_congr fun t _ => show (owns c (m.slice (r t) (hr t)) q (x t) : sProp 𝕄) = owns c (m.slice (r t) (hr t)) q (fun j => g ((r t).emb j)) from
    congrArg _ (funext fun j => (hg t j).symm))) $$ H

end Pieces

/-! ## The three buffers -/

/-- The 32 slots are the 16 that are sent and the 16 that are received. -/
theorem slots_pairs (Φ : Fin 32 → sProp 𝕄) : bigSep Finset.univ Φ = all16 fun k => iprop(Φ (own k) ∗ Φ (got k)) := by
  unfold all16
  rw [bigSep_sep', bigSep_univ_eq_bigSepL (List.finRange 16) (by decide) (by decide) (fun k => Φ (own k)),
    bigSep_univ_eq_bigSepL (List.finRange 16) (by decide) (by decide) (fun k => Φ (got k)),
    ← bigSepL_map own (List.finRange 16) Φ, ← bigSepL_map got (List.finRange 16) Φ, ← bigSepL_append]
  exact bigSep_univ_eq_bigSepL _ (by decide) (by decide) Φ

theorem comm_whole (c : Dev nD) (f : Vec F S32x32x512 .bf16) : (owns (c : Thread nD τ) commM fullShare f : sProp 𝕄) = pt c cc0_scratch0 f :=
  owns_whole (c : Thread nD τ) cc0_scratch0 fullShare f
theorem sum_whole (c : Dev nD) (f : Vec F S8x32x512 .f32) : (owns (c : Thread nD τ) sumM fullShare f : sProp 𝕄) = pt c cc0_scratch1 f :=
  owns_whole (c : Thread nD τ) cc0_scratch1 fullShare f
theorem out_whole (c : Dev nD) (f : Vec F S2x128x512 .f32) : (owns (c : Thread nD τ) outM fullShare f : sProp 𝕄) = pt c main_v18 f :=
  owns_whole (c : Thread nD τ) main_v18 fullShare f

theorem comm_split (c : Dev nD) : (iprop(∃ f, pt c cc0_scratch0 f) : sProp 𝕄)
    ⊢ all16 fun k => iprop(slotAny c (own k) fullShare ∗ slotAny c (got k) fullShare) := by
  have h : (iprop(∃ f, pt c cc0_scratch0 f) : sProp 𝕄) ⊢ iprop(∃ X, owns (c : Thread nD τ) commM fullShare X) :=
    exists_mono fun f => Entails.of_eq (comm_whole c f).symm
  rw [← slots_pairs fun k => slotAny (F := F) c k fullShare]
  exact h.trans (pieces_split (c : Thread nD τ) commM fullShare slotR (fun _ _ => rfl) slot_disj slot_cover)

theorem comm_join (c : Dev nD) : (all16 fun k => iprop(slotAny c (own k) fullShare ∗ slotAny c (got k) fullShare))
    ⊢ (iprop(∃ f, pt c cc0_scratch0 f) : sProp 𝕄) := by
  rw [← slots_pairs fun k => slotAny (F := F) c k fullShare]
  refine BIBase.Entails.trans (pieces_join (c : Thread nD τ) commM fullShare slotR (fun _ _ => rfl) slot_disj slot_cover)
    (exists_mono fun f => Entails.of_eq (comm_whole c f))

theorem sum_split (c : Dev nD) : (iprop(∃ f, pt c cc0_scratch1 f) : sProp 𝕄) ⊢ all8 fun i => sumAny (F := F) c i := by
  have h : (iprop(∃ f, pt c cc0_scratch1 f) : sProp 𝕄) ⊢ iprop(∃ X, owns (c : Thread nD τ) sumM fullShare X) :=
    exists_mono fun f => Entails.of_eq (sum_whole c f).symm
  exact h.trans (pieces_split (c : Thread nD τ) sumM fullShare sumR (fun _ _ => rfl) sum_disj sum_cover)

theorem sum_join (c : Dev nD) : (all8 fun i => sumAny (F := F) c i) ⊢ (iprop(∃ f, pt c cc0_scratch1 f) : sProp 𝕄) := by
  refine BIBase.Entails.trans (pieces_join (c : Thread nD τ) sumM fullShare sumR (fun _ _ => rfl) sum_disj sum_cover)
    (exists_mono fun f => Entails.of_eq (sum_whole c f))

theorem out_split (c : Dev nD) : (iprop(∃ f, pt c main_v18 f) : sProp 𝕄) ⊢ all8 fun i => outAny (F := F) c i := by
  have h : (iprop(∃ f, pt c main_v18 f) : sProp 𝕄) ⊢ iprop(∃ X, owns (c : Thread nD τ) outM fullShare X) :=
    exists_mono fun f => Entails.of_eq (out_whole c f).symm
  exact h.trans (pieces_split (c : Thread nD τ) outM fullShare outR (fun _ _ => rfl) out_disj out_cover)

/-- The eight finished chunks are the result. -/
theorem out_join (c : Dev nD) (x : Fin 8 → Vec F S1x32x512 .f32) :
    (all8 fun i => outAt c i (x i)) ⊢ (pt c main_v18 (resultOf x) : sProp 𝕄) := by
  have h : (all8 fun i => outAt c i (x i)) = (bigSep Finset.univ fun i : Fin 8 =>
      (owns (c : Thread nD τ) (outM.slice (outR i) (fun _ => rfl)) fullShare (fun j => resultOf x ((outR i).emb j)) : sProp 𝕄)) :=
    congrArg _ (funext fun i => congrArg _ (funext fun j => (resultOf_emb x i j).symm))
  rw [h]
  refine BIBase.Entails.trans (owns_of_rects (c : Thread nD τ) outM fullShare outR (fun _ _ => rfl) out_disj out_cover (resultOf x)) ?_
  exact Entails.of_eq (out_whole c (resultOf x))

end Cert.Exchange
-- ==== Proof.Region.lean ====
/- The call as one region of @main: what it is entered with, its one run of the body, what it leaves. -/
module

public import proofs.«01_k».proof.Proof.Memory
public import proofs.«01_k».proof.Proof.Gen.KernelIdeal.Regions
public import proofs.«01_k».proof.Proof.Gen.KernelIdeal.Points
public import Idealize.ShloMosaic.Lib.Pipeline.RegionTalk

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The five windows of device `c`, as @main's host operations leave them. -/
def inputs (c : Dev nD) : Inputs F where
  x := V1 m c (Proc.devRef .tc main_v17)
  w := V1 m c (Proc.devRef .tc main_arg1)
  k := V1 m c (Proc.devRef .tc main_v15)
  v := V1 m c (Proc.devRef .tc main_v16)
  o := V1 m c (Proc.devRef .tc main_arg4)

/-- The devices' chunks. -/
abbrev PP (d : Dev nD) : Fin 8 → Vec F S1x32x512 .bf16 := chunkOf (inputs m d)
/-- The result on device `c`. -/
def result (c : Dev nD) : Vec F S2x128x512 .f32 := resultOf (fullSum (PP m) c)
/-- A device's buffers at the end. -/
abbrev VN (c : Dev nD) : Valuation τ sig (Elt F) := Function.update (V1 m c) (Proc.devRef .tc main_v18) (result m c)

/-! ## The counters of one device, one by one -/

theorem bigSep40 (Φ : Fin 40 → sProp 𝕄) : bigSep Finset.univ Φ
    = iprop(all16 (fun k => Φ ⟨k.val, by omega⟩) ∗ all16 (fun k => Φ ⟨16 + k.val, by omega⟩) ∗ all8 (fun i => Φ ⟨32 + i.val, by omega⟩)) := by
  unfold all16 all8
  rw [bigSep_univ_eq_bigSepL (List.finRange 16) (by decide) (by decide) (fun k : Fin 16 => Φ ⟨k.val, by omega⟩),
    bigSep_univ_eq_bigSepL (List.finRange 16) (by decide) (by decide) (fun k : Fin 16 => Φ ⟨16 + k.val, by omega⟩),
    bigSep_univ_eq_bigSepL (List.finRange 8) (by decide) (by decide) (fun i : Fin 8 => Φ ⟨32 + i.val, by omega⟩),
    ← bigSepL_map (fun k : Fin 16 => (⟨k.val, by omega⟩ : Fin 40)) (List.finRange 16) Φ,
    ← bigSepL_map (fun k : Fin 16 => (⟨16 + k.val, by omega⟩ : Fin 40)) (List.finRange 16) Φ,
    ← bigSepL_map (fun i : Fin 8 => (⟨32 + i.val, by omega⟩ : Fin 40)) (List.finRange 8) Φ, ← bigSepL_append, ← bigSepL_append]
  exact bigSep_univ_eq_bigSepL _ (by decide) (by decide) Φ

/-- Something of each of a device's own counters, by what the counter is for. -/
theorem cells40 (c : Dev nD) (Ψ : GSem nD τ sig → sProp 𝕄) : (bigSep Finset.univ fun j : Fin 40 => Ψ ((c : Thread nD τ), osem j))
    = iprop(all16 (fun k => Ψ (sendCell c k)) ∗ all16 (fun k => Ψ (recvCell c k)) ∗ all8 (fun i => Ψ (outCell c i))) := by
  rw [bigSep40]
  simp only [← sendS_osem, ← recvS_osem, ← outS_osem]

theorem ownSems_eq (c : Dev nD) : (Pipeline.ownSems0 osem c : sProp 𝕄)
    = iprop(all16 (fun k => semVal (sendCell c k) 0) ∗ all16 (fun k => semVal (recvCell c k) 0) ∗ all8 (fun i => semVal (outCell c i) 0)) :=
  cells40 c fun g => semVal g 0

/-! ## Entering and leaving -/

section Talk

variable (P : Dev nD → Fin 8 → Vec F S1x32x512 .bf16)

/-- The tokens of the duties that device `c` pays. -/
def tokRes (c : Dev nD) : sProp 𝕄 :=
  iprop((dutyTok ER (barCell (nbr false c)) 0 false ∗ dutyTok ER (barCell (nbr true c)) 0 true)
    ∗ all16 (fun k => iprop(dutyTok ER (recvCell (peer k c) k) 0 false ∗ dutyTok ER (sendCell c k) 0 false))
    ∗ all8 (fun i => dutyTok ER (outCell c i) 0 false))
/-- The units that device `c` may wait for. -/
def credRes (c : Dev nD) : sProp 𝕄 := iprop(cred (tallyAt (barCell c) () 2) ∗ all16 (fun k => cred (tallyAt (recvCell c k) () NS)))
/-- The right to put each of its own counters to use. -/
def openRes (c : Dev nD) : sProp 𝕄 := bigSep Finset.univ fun j : Fin 40 => openTok ER ((c : Thread nD τ), osem j)
/-- What the launch keeps for the region on device `c`. -/
def Tk (c : Dev nD) : sProp 𝕄 :=
  iprop((∃ K, recs P K) ∗ (reached ER (barCell (nbr false c)) 0 ∗ reached ER (barCell (nbr true c)) 0 ∗ atPos ER (barCell c) 0 ∅ 0)
    ∗ tokRes c ∗ openRes c ∗ credRes c)
/-- The same once the device's counters are in use. -/
def Xk (c : Dev nD) : sProp 𝕄 := iprop((∃ K, recs P K) ∗ ghostRes (F := F) c ∗ levAts L lv)

theorem open_one (K : GSem nD τ sig → ℕ) (c : Dev nD) (j : Fin 40) :
    iprop(recs P K ∗ iprop(openTok ER ((c : Thread nD τ), osem j) ∗ semVal ((c : Thread nD τ), osem j) 0))
      ⊢ (|={Set.univ}=> iprop(atPos ER ((c : Thread nD τ), osem j) 0 ∅ 0 ∗ reached ER ((c : Thread nD τ), osem j) 0) : sProp 𝕄) := by
  iintro ⟨#HR, Ho, Hv⟩
  iapply (Rounds.cell_open ER (Rd P) (g := ((c : Thread nD τ), osem j)) (Set.mem_univ (K ((c : Thread nD τ), osem j))))
  isplitr; · iapply (recs_at P K (mem_sc c j)); iexact HR
  isplitl [Ho] <;> iassumption

theorem open_all (K : GSem nD τ sig → ℕ) (c : Dev nD) :
    iprop(recs P K ∗ openRes c ∗ Pipeline.ownSems0 osem c)
      ⊢ (|={Set.univ}=> bigSep Finset.univ fun j : Fin 40 =>
          iprop(atPos ER ((c : Thread nD τ), osem j) 0 ∅ 0 ∗ reached ER ((c : Thread nD τ), osem j) 0) : sProp 𝕄) := by
  refine BIBase.Entails.trans ?_ (bigSep_fupd (Fr := frame) Finset.univ _)
  refine BIBase.Entails.trans ?_ (bigSep_with_persistent (R := recs P K) fun j _ => open_one P K c j)
  unfold openRes Pipeline.ownSems0
  rw [bigSep_sep']

theorem hopen (c : Dev nD) : iprop(Tk P c ∗ Pipeline.ownSems0 osem c ∗ levAts L lv) ⊢ (|={Set.univ}=> Xk P c : sProp 𝕄) := by
  unfold Tk Xk
  iintro ⟨⟨⟨%K, #HR⟩, ⟨HbF, HbT, Hat⟩, Htok, Hop, Hcr⟩, Hos, #Hlev⟩
  imod (open_all P K c) $$ [Hop Hos] with H
  · isplitr; · iexact HR
    isplitl [Hop] <;> iassumption
  imodintro
  isplitr; · iexists K; iexact HR
  isplitr []
  · ihave H' := (Entails.of_eq (cells40 c fun g => (iprop(atPos ER g 0 ∅ 0 ∗ reached ER g 0) : sProp 𝕄))) $$ H
    icases H' with ⟨HS, HV, HO⟩
    unfold ghostRes tokRes credRes recvRes all16 all8
    simp only [bigSep_sep']
    icases Htok with ⟨⟨Ht1, Ht2⟩, ⟨Ht3, Ht4⟩, Ht5⟩
    icases Hcr with ⟨Hc1, Hc2⟩
    icases HS with ⟨HSa, HSr⟩
    icases HV with ⟨HVa, HVr⟩
    icases HO with ⟨HOa, HOr⟩
    isplitl [Ht1 Ht2 HbF HbT Hat Hc1]
    · isplitl [Ht1]; · iexact Ht1
      isplitl [Ht2]; · iexact Ht2
      isplitl [HbF]; · iexact HbF
      isplitl [HbT]; · iexact HbT
      isplitl [Hat]; · iexact Hat
      iexact Hc1
    isplitl [Ht3 Ht4 HSa HSr HVa HVr Hc2]
    · isplitl [Ht3]; · iexact Ht3
      isplitl [Ht4]; · iexact Ht4
      isplitl [HSr]; · iexact HSr
      isplitl [HVr]; · iexact HVr
      isplitl [HSa]; · iexact HSa
      isplitl [Hc2] <;> iassumption
    isplitl [Ht5]; · iexact Ht5
    isplitl [HOr] <;> iassumption
  iexact Hlev

end Talk

/-! ## The region's record -/

/-- The buffers that the body addresses itself: the result. -/
def Hs : Finset (DevRef τ sig) := {Proc.devRef .tc main_v18}
/-- The buffers of @main that no window stages. -/
def Sr : Finset (DevRef τ sig) := Pipeline.ucRefs τ sig \ Pipeline.arrRefs (τ := τ) spec0

theorem held_Hs (c : Dev nD) (W : Valuation τ sig (Elt F)) :
    (StableHlo.held (c : Thread nD τ) Hs W : sProp 𝕄) = pt c main_v18 (W (Proc.devRef .tc main_v18)) := by
  unfold StableHlo.held Hs
  rw [bigSep_singleton]

/-- Before the body: the protocol's state, the memory of the exchange; after it: the result's chunks, all at rest. -/
def phi (c : Dev nD) (n : ℕ) : sProp 𝕄 :=
  if n = 0 then iprop(Xk (PP m) c ∗ memRes (F := F) c ∗ ∃ r, prngReg c r) else iprop(endRes (PP m) c ∗ ∃ r, prngReg c r)
theorem phi_first (c : Dev nD) {n : ℕ} (h : n = 0) : phi m c n = iprop(Xk (PP m) c ∗ memRes (F := F) c ∗ ∃ r, prngReg c r) := if_pos h
theorem phi_next (c : Dev nD) {n : ℕ} (h : n ≠ 0) : phi m c n = iprop(endRes (PP m) c ∗ ∃ r, prngReg c r) := if_neg h

/-- The region's data. -/
def dat0 (c : Dev nD) : Dat τ (Elt F) Unit ℕ UU ℕ cfg0 c where
  A w := match w with
    | ⟨0, _⟩ => (inputs m c).x
    | ⟨1, _⟩ => (inputs m c).w
    | ⟨2, _⟩ => (inputs m c).k
    | ⟨3, _⟩ => (inputs m c).v
    | ⟨4, _⟩ => (inputs m c).o
    | ⟨_ + 5, h⟩ => absurd h (Nat.not_lt.2 (Nat.le_add_left _ _))
  after w _ := match w with
    | ⟨0, _⟩ => (inputs m c).x
    | ⟨1, _⟩ => (inputs m c).w
    | ⟨2, _⟩ => (inputs m c).k
    | ⟨3, _⟩ => (inputs m c).v
    | ⟨4, _⟩ => (inputs m c).o
    | ⟨_ + 5, h⟩ => absurd h (Nat.not_lt.2 (Nat.le_add_left _ _))
  Φ t := phi m c t.val
  q _ := fullShare
  owed t := if t.val = 0 then O₀ c else 0

def pdats : (p : Fin 1) → (c : Dev nD) → Dat τ (Elt F) Unit ℕ UU ℕ (Pipeline.pin (pcfgs (F := F)) adm p) c
  | 0 => dat0 m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed (Fin.castSucc t0_0) = O₀ c := by
  show (if (Fin.castSucc t0_0 : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-! ## The windows' stages hold the whole arrays -/

theorem before_x (c : Dev nD) (d) : (dat0 (F := F) m c).before 0 t0_0 d = (inputs m c).x := by
  unfold Dat.before; rw [if_pos (fetch0_0 t0_0)]
  exact funext fun j => congrArg (inputs m c).x (funext fun a => Fin.ext ((ValueKit.view_emb_slice_whole_unit_val main_v17 _ _ _ _ a).trans
    (by show 0 * _ + _ = _; rw [Nat.zero_mul, Nat.zero_add])))
theorem before_w (c : Dev nD) (d) : (dat0 (F := F) m c).before 1 t0_0 d = (inputs m c).w := by
  unfold Dat.before; rw [if_pos (fetch0_1 t0_0)]
  exact funext fun j => congrArg (inputs m c).w (funext fun a => Fin.ext ((ValueKit.view_emb_slice_whole_unit_val main_arg1 _ _ _ _ a).trans
    (by show 0 * _ + _ = _; rw [Nat.zero_mul, Nat.zero_add])))
theorem before_k (c : Dev nD) (d) : (dat0 (F := F) m c).before 2 t0_0 d = (inputs m c).k := by
  unfold Dat.before; rw [if_pos (fetch0_2 t0_0)]
  exact funext fun j => congrArg (inputs m c).k (funext fun a => Fin.ext ((ValueKit.view_emb_slice_whole_unit_val main_v15 _ _ _ _ a).trans
    (by show 0 * _ + _ = _; rw [Nat.zero_mul, Nat.zero_add])))
theorem before_v (c : Dev nD) (d) : (dat0 (F := F) m c).before 3 t0_0 d = (inputs m c).v := by
  unfold Dat.before; rw [if_pos (fetch0_3 t0_0)]
  exact funext fun j => congrArg (inputs m c).v (funext fun a => Fin.ext ((ValueKit.view_emb_slice_whole_unit_val main_v16 _ _ _ _ a).trans
    (by show 0 * _ + _ = _; rw [Nat.zero_mul, Nat.zero_add])))
theorem before_o (c : Dev nD) (d) : (dat0 (F := F) m c).before 4 t0_0 d = (inputs m c).o := by
  unfold Dat.before; rw [if_pos (fetch0_4 t0_0)]
  exact funext fun j => congrArg (inputs m c).o (funext fun a => Fin.ext ((ValueKit.view_emb_slice_whole_unit_val main_arg4 _ _ _ _ a).trans
    (by show 0 * _ + _ = _; rw [Nat.zero_mul, Nat.zero_add])))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = pt c b X := by
  unfold owns; simp only [Memref.view_whole, View.read_whole, View.set_whole]
  refine Idealize.SL.BI.Entails.antisymm ?_ ?_
  · show (_ : sProp 𝕄) ⊢ _
    iintro ⟨%f, %h, H⟩
    subst h
    iexact H
  · show (_ : sProp 𝕄) ⊢ _
    iintro H
    iexists X
    isplitr; · ipureintro; rfl
    iexact H

/-! ## The body's obligation -/

theorem owesAt_intro (c : Dev nD) (t : Fin (cfg0.N + 1)) (O : CellTallies nD τ sig Unit) (h0 : (dat0 (F := F) m c).owed t = O) (W : Waits sig Unit) :
    (owes (c : Thread nD τ) O W : sProp 𝕄) ⊢ ((dat0 (F := F) m c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat0 (F := F) m c).owed t = O) :
    ((dat0 (F := F) m c).owesAt () t : sProp 𝕄) ⊢ iprop(∃ W, owes (c : Thread nD τ) O W) := by
  unfold Dat.owesAt Pipeline.owesWithin; rw [h0]
  iintro ⟨%W, -, HO⟩; iexists W; iexact HO

theorem Φ_first (c : Dev nD) : (dat0 (F := F) m c).Φ (Fin.castSucc t0_0) = iprop(Xk (PP m) c ∗ memRes (F := F) c ∗ ∃ r, prngReg c r) := by
  exact phi_first m c rfl
theorem Φ_next (c : Dev nD) : (dat0 (F := F) m c).Φ (Fin.succ t0_0) = iprop(endRes (PP m) c ∗ ∃ r, prngReg c r) := by
  exact phi_next m c (n := 0 + 1) (by decide)
theorem owed_next (c : Dev nD) : (dat0 (F := F) m c).owed (Fin.succ t0_0) = 0 := by
  show (if (Fin.succ t0_0 : Fin (cfg0.N + 1)).val = 0 then O₀ c else 0) = 0; exact if_neg (by decide)

theorem before_all (c : Dev nD) : (bigSep Finset.univ fun w : Fin cfg0.W => iprop(∃ d, owns (c : Thread nD τ) ((cfg0.win w).stage (cfg0.slots t0_0 w)) fullShare ((dat0 (F := F) m c).before w t0_0 d)) : sProp 𝕄)
    ⊢ winRes c (inputs m c) := by
  rw [bigSep_W0]
  unfold winRes
  iintro ⟨⟨%d0, H0⟩, ⟨%d1, H1⟩, ⟨%d2, H2⟩, ⟨%d3, H3⟩, ⟨%d4, H4⟩⟩
  rw [before_x, before_w, before_k, before_v, before_o]
  isplitl [H0]; · iapply (Entails.of_eq (owns_whole_eq c cc0_stg0_0 (inputs m c).x)); iexact H0
  isplitl [H1]; · iapply (Entails.of_eq (owns_whole_eq c cc0_stg1_0 (inputs m c).w)); iexact H1
  isplitl [H2]; · iapply (Entails.of_eq (owns_whole_eq c cc0_stg2_0 (inputs m c).k)); iexact H2
  isplitl [H3]; · iapply (Entails.of_eq (owns_whole_eq c cc0_stg3_0 (inputs m c).v)); iexact H3
  iapply (Entails.of_eq (owns_whole_eq c cc0_stg4_0 (inputs m c).o)); iexact H4

theorem after_all (c : Dev nD) : (winRes c (inputs m c) : sProp 𝕄)
    ⊢ (bigSep Finset.univ fun w : Fin cfg0.W => owns (c : Thread nD τ) ((cfg0.win w).stage (cfg0.slots t0_0 w)) fullShare ((dat0 (F := F) m c).after w t0_0)) := by
  rw [bigSep_W0]
  unfold winRes
  iintro ⟨H0, H1, H2, H3, H4⟩
  isplitl [H0]; · iapply (Entails.of_eq (owns_whole_eq c cc0_stg0_0 (inputs m c).x).symm); iexact H0
  isplitl [H1]; · iapply (Entails.of_eq (owns_whole_eq c cc0_stg1_0 (inputs m c).w).symm); iexact H1
  isplitl [H2]; · iapply (Entails.of_eq (owns_whole_eq c cc0_stg2_0 (inputs m c).k).symm); iexact H2
  isplitl [H3]; · iapply (Entails.of_eq (owns_whole_eq c cc0_stg3_0 (inputs m c).v).symm); iexact H3
  iapply (Entails.of_eq (owns_whole_eq c cc0_stg4_0 (inputs m c).o).symm); iexact H4

theorem body_run (c : Dev nD) : (iprop((dat0 (F := F) m c).Φ (Fin.castSucc t0_0) ∗ (dat0 (F := F) m c).owesAt () (Fin.castSucc t0_0) ∗ winRes c (inputs m c)) : sProp 𝕄)
    ⊢ run c flat fun _ => iprop((dat0 (F := F) m c).Φ (Fin.succ t0_0) ∗ (dat0 (F := F) m c).owesAt () (Fin.succ t0_0) ∗ winRes c (inputs m c)) := by
  rw [Φ_first, Φ_next]
  unfold Xk
  iintro ⟨⟨⟨⟨%K, #HR⟩, Hg, #Hlev⟩, Hm, Hp⟩, HO, Hw⟩
  ihave HO := (owesAt_elim m c _ (O₀ c) (owed_first m c)) $$ HO
  iapply (body_rule (inputs m) K c _) $$ [Hg Hm Hw HO]
  · isplitr; · iexact HR
    isplitr; · iexact Hlev
    isplitl [Hg]; · iexact Hg
    isplitl [Hm]; · iexact Hm
    isplitl [Hw]; · iexact Hw
    iexact HO
  iintro ⟨He, Hw, %W, HO⟩
  unfold run; rw [wp_ret]
  imodintro
  isplitl [He Hp]
  · isplitl [He] <;> iassumption
  isplitl [HO]
  · iapply (owesAt_intro m c _ 0 (owed_next m c) W); iexact HO
  iexact Hw

set_option maxRecDepth 8000 in
theorem body_obligation (c : Dev nD) : BodyObligation (dat0 (F := F) m c) (defs₀ (F := F)) 𝒱₀ () Set.univ := fun t => by
  obtain rfl := fin_N0 t
  refine BIBase.Entails.trans (BI.sep_mono (.refl _) (BI.sep_mono (.refl _) (before_all m c))) ?_
  refine BIBase.Entails.trans (body_run m c) ?_
  rw [← body_flat]
  exact (wp _ _ _ _).mono (fun _ => BI.sep_mono (.refl _) (BI.sep_mono (.refl _) (after_all m c)))

/-! ## The region -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  have bar : ∀ d : Dev nD, 0 < tallyAt (barCell d) () 1 g u → u ∈ L g ∧ 0 < lv g u := fun d h => by
    rw [tallyAt_apply] at h
    by_cases e : g = barCell d ∧ u = ()
    · rw [e.1]; exact ⟨by rw [L_tc]; exact Finset.mem_singleton_self _, by show 0 < roleLv (roleOf (.reg barS)); rw [role_bar]; decide⟩
    · rw [if_neg e] at h; exact absurd h (Nat.lt_irrefl 0)
  rcases Nat.add_pos_iff_pos_or_pos.mp h with h | h
  · rcases Nat.add_pos_iff_pos_or_pos.mp h with h | h
    · obtain ⟨k, -, rfl⟩ := dues_pos h
      exact ⟨by rw [L_tc]; exact Finset.mem_singleton_self _, by show 0 < roleLv (roleOf (.dma (recvS k))); rw [role_recv]; exact Nat.add_pos_left (by decide) _⟩
    · exact bar _ h
  · exact bar _ h

theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact O₀_pos h
  · exact absurd h (Nat.lt_irrefl 0)

theorem stage_lv : ∀ (w : Fin 5) (s : Fin (spec0 w).nbuf), roleLv (roleOf (.dma ((spec0 w).sem s))) = 0 := by decide

theorem hin (c : Dev nD) : iprop(Pipeline.scopedRest (Pipeline.pin (pcfgs (F := F)) adm 0).spec c ∗ (∃ r, prngReg c r)
      ∗ StableHlo.held (c.tc : Thread nD τ) Hs (V1 m c) ∗ Xk (PP m) c) ⊢ (pdats m 0 c).Φ 0 := by
  rw [show (pdats m 0 c).Φ 0 = iprop(Xk (PP m) c ∗ memRes (F := F) c ∗ ∃ r, prngReg c r) from phi_first m c rfl, held_Hs]
  rw [show (Pipeline.scopedRest (Pipeline.pin (pcfgs (F := F)) adm 0).spec c : sProp 𝕄)
    = iprop((∃ f, pt c cc0_scratch0 f) ∗ ∃ f, pt c cc0_scratch1 f) from scopedRest0_eq c]
  unfold memRes
  iintro ⟨⟨H0, H1⟩, Hp, Hv, HX⟩
  isplitl [HX]; · iexact HX
  isplitr [Hp]
  · isplitl [H0]; · iapply (comm_split c); iexact H0
    iapply (Entails.of_eq (bigSep_sep' Finset.univ (fun i : Fin 8 => sumAny (F := F) c i) (fun i => outAny (F := F) c i)).symm)
    isplitl [H1]; · iapply (sum_split c); iexact H1
    iapply (out_split c); iexists _; iexact Hv
  iexact Hp

theorem VN_out (c : Dev nD) : VN m c (Proc.devRef .tc main_v18) = result m c := Function.update_self ..
theorem VN_of (c : Dev nD) (r : DevRef τ sig) (h : r ≠ Proc.devRef .tc main_v18) : VN m c r = V1 m c r := Function.update_of_ne h ..

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (VN m c) ∗ Pipeline.ownSems0 osem c ∗ semVal (barCell c) 0) := by
  rw [show (pdats m 0 c).Φ (Fin.last _) = iprop(endRes (PP m) c ∗ ∃ r, prngReg c r) from
    phi_next m c (n := cfg0.N) (by rw [show cfg0.N = 1 from N_0]; decide), held_Hs, VN_out, ownSems_eq]
  rw [show (Pipeline.scopedRest (Pipeline.pin (pcfgs (F := F)) adm 0).spec c : sProp 𝕄)
    = iprop((∃ f, pt c cc0_scratch0 f) ∗ ∃ f, pt c cc0_scratch1 f) from scopedRest0_eq c]
  unfold endRes doneRes restedRes all8 all16
  simp only [bigSep_sep']
  iintro ⟨⟨⟨Ho, Hs, Hos⟩, ⟨H1, H2, H3, H4⟩, Hb⟩, Hp⟩
  isplitl [H1 H3 Hs]
  · isplitl [H1 H3]
    · iapply (comm_join c)
      iapply (Entails.of_eq (bigSep_sep' Finset.univ (fun k : Fin 16 => slotAny (F := F) c (own k) fullShare) (fun k => slotAny (F := F) c (got k) fullShare)).symm)
      isplitl [H1] <;> iassumption
    iapply (sum_join c); iexact Hs
  isplitl [Hp]; · iexact Hp
  isplitl [Ho]; · iapply (out_join c (fullSum (PP m) c)); iexact Ho
  isplitl [H2 H4 Hos]
  · isplitl [H2]; · iexact H2
    isplitl [H4]; · iexact H4
    iexact Hos
  iexact Hb

theorem share_full (c : Dev nD) (w : Fin 5) : (pdats (F := F) m 0 c).share w = fullShare := by
  match w with
  | ⟨0, _⟩ => rfl
  | ⟨1, _⟩ => rfl
  | ⟨2, _⟩ => rfl
  | ⟨3, _⟩ => rfl
  | ⟨4, _⟩ => rfl
  | ⟨_ + 5, h⟩ => exact absurd h (Nat.not_lt.2 (Nat.le_add_left _ _))
theorem entry_arr (c : Dev nD) (w : Fin 5) : (pdats (F := F) m 0 c).arrAt w 0 = V1 m c (Proc.devRef .tc (Pipeline.arrRef spec0 w)) := by
  match w with
  | ⟨0, _⟩ => rfl
  | ⟨1, _⟩ => rfl
  | ⟨2, _⟩ => rfl
  | ⟨3, _⟩ => rfl
  | ⟨4, _⟩ => rfl
  | ⟨_ + 5, h⟩ => exact absurd h (Nat.not_lt.2 (Nat.le_add_left _ _))
theorem arr_ne (w : Fin 5) : (Proc.devRef .tc (Pipeline.arrRef spec0 w) : DevRef τ sig) ≠ Proc.devRef .tc main_v18 := by
  revert w; decide
theorem final_arr (c : Dev nD) (w : Fin 5) : (pdats (F := F) m 0 c).arrAt w (Pipeline.pin (pcfgs (F := F)) adm 0).N
    = VN m c (Proc.devRef .tc (Pipeline.arrRef spec0 w)) := by
  refine ((dat0 m c).arrAt_in w ?_ _).trans ((entry_arr m c w).trans (VN_of m c _ (arr_ne w)).symm)
  revert w; decide

set_option backward.isDefEq.respectTransparency.types false in
/-- The call, as a region that talks across devices. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Sr (by unfold Hs Sr; decide) kitP rfl (fun c => (body_obligation m c).loose)
    (fun _ => 0) O₀ (fun c => (owed_zero m c).trans (zero_add _).symm) (owed_last m) (fun _ => rfl) (share_full m)
    (V1 m) (VN m) (fun c b hb => VN_of m c b (fun e => (Finset.mem_sdiff.mp hb).2 (e ▸ Finset.mem_singleton_self _)))
    (Tk (PP m)) (fun c => semVal (barCell c) 0) (Xk (PP m)) (fun c => semVal (barCell c) 0) (hopen (PP m)) (hin m) (hout m)
    (fun c => by iintro H; imodintro; iexact H)
    (fun _ => 0)
    ⟨fun c w s => by rw [L_tc]; exact Finset.mem_singleton_self _, fun c w s => le_of_eq (stage_lv w s), fun c t g i h => cutD m c t g i h⟩
    (fun _ => iprop(emp))
    (entry_arr m) (final_arr m)

end Cert.Exchange
-- ==== Proof.Launch.lean ====
/- The launch: every counter's record made, tokens and units dealt to the devices; and the run of @main. -/
module

public import proofs.«01_k».proof.Proof.Region

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

def tokS : Finset (GSem nD τ sig × ℕ × Bool) :=
  (Finset.univ : Finset (Dev nD × Fin 40)).map ⟨fun p => (scE p, 0, false), fun _ _ h => scE.injective (congrArg Prod.fst h)⟩
def tokB (b : Bool) : Finset (GSem nD τ sig × ℕ × Bool) :=
  (Finset.univ : Finset (Dev nD)).map ⟨fun c => (barE c, 0, b), fun _ _ h => barE.injective (congrArg Prod.fst h)⟩
def toks : Finset (GSem nD τ sig × ℕ × Bool) := tokS ∪ (tokB false ∪ tokB true)

theorem osem_ne_bar (j : Fin 40) : osem j ≠ .reg barS := by revert j; decide

theorem tokS_disj (b : Bool) : Disjoint tokS (tokB b) := by
  rw [Finset.disjoint_left]
  intro x h₁ h₂
  obtain ⟨p, -, rfl⟩ := Finset.mem_map.mp h₁
  obtain ⟨c, -, h⟩ := Finset.mem_map.mp h₂
  exact osem_ne_bar p.2 (congrArg (fun x : GSem nD τ sig × ℕ × Bool => x.1.2) h).symm
theorem tokB_disj : Disjoint (tokB false) (tokB true) := by
  rw [Finset.disjoint_left]
  intro x h₁ h₂
  obtain ⟨p, -, rfl⟩ := Finset.mem_map.mp h₁
  obtain ⟨c, -, h⟩ := Finset.mem_map.mp h₂
  exact Bool.noConfusion (congrArg (fun x : GSem nD τ sig × ℕ × Bool => x.2.2) h)

theorem cells_disj : Disjoint barCells scCells := by
  rw [Finset.disjoint_left]
  intro g h₁ h₂
  obtain ⟨c, -, rfl⟩ := Finset.mem_map.mp h₁
  obtain ⟨p, -, h⟩ := Finset.mem_map.mp h₂
  exact osem_ne_bar p.2 (congrArg Prod.snd h)

omit [FloatOps F] in
theorem sep_comm2 {α β : Type} [Fintype α] [Fintype β] (Φ : α → β → sProp 𝕄) :
    (bigSep Finset.univ fun a => bigSep Finset.univ fun b => Φ a b) = bigSep Finset.univ fun b => bigSep Finset.univ fun a => Φ a b :=
  (bigSep_univ_prod fun p : α × β => Φ p.1 p.2).symm.trans
    ((bigSep_univ_equiv (Equiv.prodComm β α) _).trans (bigSep_univ_prod fun p : β × α => Φ p.2 p.1))

/-- Something of every transfer's cell, dealt to the device at the other end. -/
theorem deal (Φ : Fin 16 → Dev nD → sProp 𝕄) : (bigSep Finset.univ fun c : Dev nD => all16 fun k => Φ k c)
    = bigSep Finset.univ fun c : Dev nD => all16 fun k => Φ k (peer k c) := by
  unfold all16
  rw [sep_comm2, sep_comm2 (fun c k => Φ k (peer k c))]
  exact bigSep_congr fun k _ => bigSep_univ_equiv (nbrE (side k)) (Φ k)

/-- Something of every barrier, dealt to the neighbour. -/
theorem deal_bar (b : Bool) (Φ : Dev nD → sProp 𝕄) : bigSep Finset.univ Φ = bigSep Finset.univ fun c : Dev nD => Φ (nbr b c) :=
  bigSep_univ_equiv (nbrE b) Φ

theorem tokS_sum : (bigSep tokS fun x => (dutyTok ER x.1 x.2.1 x.2.2 : sProp 𝕄))
    = bigSep Finset.univ fun c : Dev nD => iprop(all16 (fun k => dutyTok ER (sendCell c k) 0 false)
        ∗ all16 (fun k => dutyTok ER (recvCell c k) 0 false) ∗ all8 (fun i => dutyTok ER (outCell c i) 0 false)) := by
  refine (bigSep_map ..).trans ((bigSep_univ_prod _).trans ?_)
  exact bigSep_congr fun c _ => cells40 c fun g => dutyTok ER g 0 false
theorem tokB_sum (b : Bool) : (bigSep (tokB b) fun x => (dutyTok ER x.1 x.2.1 x.2.2 : sProp 𝕄))
    = bigSep Finset.univ fun c : Dev nD => dutyTok ER (barCell (nbr b c)) 0 b :=
  (bigSep_map ..).trans (deal_bar b fun c => dutyTok ER (barCell c) 0 b)

theorem toks_dealt : (bigSep toks fun x => (dutyTok ER x.1 x.2.1 x.2.2 : sProp 𝕄)) ⊢ bigSep Finset.univ fun c : Dev nD => tokRes (F := F) c := by
  unfold toks
  rw [bigSep_union (Finset.disjoint_union_right.mpr ⟨tokS_disj false, tokS_disj true⟩), bigSep_union tokB_disj, tokS_sum, tokB_sum, tokB_sum]
  have e : (bigSep Finset.univ fun c : Dev nD => tokRes (F := F) c)
      = iprop(((bigSep Finset.univ fun c : Dev nD => dutyTok ER (barCell (nbr false c)) 0 false) ∗ (bigSep Finset.univ fun c : Dev nD => dutyTok ER (barCell (nbr true c)) 0 true))
        ∗ ((bigSep Finset.univ fun c : Dev nD => all16 fun k => dutyTok ER (recvCell (peer k c) k) 0 false)
          ∗ (bigSep Finset.univ fun c : Dev nD => all16 fun k => dutyTok ER (sendCell c k) 0 false))
        ∗ (bigSep Finset.univ fun c : Dev nD => all8 fun i => dutyTok ER (outCell c i) 0 false)) := by
    unfold tokRes all16 all8
    simp only [bigSep_sep']
  rw [e, ← deal fun k c => (dutyTok ER (recvCell c k) 0 false : sProp 𝕄)]
  simp only [bigSep_sep']
  show iprop((_ ∗ _ ∗ _) ∗ _ ∗ _) ⊢ _
  iintro ⟨⟨H1, H2, H3⟩, H4, H5⟩
  isplitl [H4 H5]; · isplitl [H4] <;> iassumption
  isplitl [H1 H2]; · isplitl [H2] <;> iassumption
  iexact H3

/-! ## The units -/

/-- The units of device `c`'s own waits. -/
def TT (c : Dev nD) : CellTallies nD τ sig Unit := tallyAt (barCell c) () 2 + ∑ k : Fin 16, tallyAt (recvCell c k) () NS

theorem dues_sum (c : Dev nD) (l : List (Fin 16)) : dues c l = (l.map fun k => tallyAt (recvCell (peer k c) k) () NS).sum := by
  induction l with
  | nil => rfl
  | cons k l ih => rw [dues, ih, List.map_cons, List.sum_cons, add_comm]

theorem dues_all (c : Dev nD) : dues c (firsts ++ seconds) = ∑ k : Fin 16, tallyAt (recvCell (peer k c) k) () NS := by
  rw [dues_sum, ← List.sum_toFinset _ (by decide), show (firsts ++ seconds).toFinset = Finset.univ from by decide]

theorem owed_sum : (∑ c : Dev nD, O₀ c) = ∑ c : Dev nD, TT c := by
  unfold O₀ TT
  have hk (k : Fin 16) : (∑ c : Dev nD, (tallyAt (recvCell (peer k c) k) () NS : CellTallies nD τ sig Unit)) = ∑ c : Dev nD, tallyAt (recvCell c k) () NS :=
    Equiv.sum_comp (nbrE (side k)) (fun c : Dev nD => (tallyAt (recvCell c k) () NS : CellTallies nD τ sig Unit))
  have hb (b : Bool) : (∑ c : Dev nD, (tallyAt (barCell (nbr b c)) () 1 : CellTallies nD τ sig Unit)) = ∑ c : Dev nD, tallyAt (barCell c) () 1 :=
    Equiv.sum_comp (nbrE b) (fun c : Dev nD => (tallyAt (barCell c) () 1 : CellTallies nD τ sig Unit))
  simp only [Finset.sum_add_distrib, dues_all]
  rw [Finset.sum_comm, Finset.sum_comm (f := fun (c : Dev nD) (k : Fin 16) => (tallyAt (recvCell c k) () NS : CellTallies nD τ sig Unit)),
    Finset.sum_congr rfl fun k _ => hk k, hb true, hb false, add_assoc, add_comm, ← Finset.sum_add_distrib]
  exact congrArg (· + _) (Finset.sum_congr rfl fun c _ => tallyAt_add _ _ 1 1)

theorem TT_own (d : Dev nD) (g : GSem nD τ sig) (h : TT d g ≠ 0) : g.1 = (d.tc : Thread nD τ) := by
  by_contra hg
  refine h ?_
  unfold TT
  rw [Pi.add_apply, Finset.sum_apply, tallyAt_ne_cell (fun e => hg (congrArg Prod.fst e)), zero_add]
  exact Finset.sum_eq_zero fun k _ => tallyAt_ne_cell (fun e => hg (congrArg Prod.fst e)) _ _

theorem creds (c : Dev nD) : (Pipeline.launchCred O₀ c : sProp 𝕄) ⊢ credRes (F := F) c := by
  rw [Pipeline.launchCred_of_sum O₀ TT owed_sum TT_own c]
  unfold TT credRes all16
  rw [← Pipeline.cred_finsetSum]
  exact (cred_add _ _).1

/-! ## The launch's state -/

omit [FloatOps F] in
theorem bigSep_pair {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm
omit [FloatOps F] in
theorem bigSep_unpair {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)

/-- What rides beside the buffers before the call, and after it. -/
def E : Fin 2 → Dev nD → sProp 𝕄
  | 0, c => iprop(Tk (PP m) c ∗ (∃ r, prngReg c r) ∗ ∃ W, owes (c : Thread nD τ) (O₀ c) W)
  | 1, c => iprop(semVal (barCell c) 0 ∗ ∃ W, owes (c : Thread nD τ) (0 : CellTallies nD τ sig Unit) W)

def u₀ : UU :=
  (initOf (Pipeline.cells (Pipeline.pin (pcfgs (F := F)) adm) cellOf_inj) (Pipeline.launchToks (Pipeline.pin (pcfgs (F := F)) adm) cellOf_inj),
    launchOf barCells scCells toks)

/-- A resource kept, whole, by device 0. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase 0) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev (BI.own (ER (launchOf barCells scCells toks)))

/-- The records every device may consult. -/
def records (K : GSem nD τ sig → ℕ) : sProp 𝕄 := iprop(recs (PP m) K ∗ bigSep barCells fun g => reached ER g 0)
instance records_persistent (K : GSem nD τ sig → ℕ) : BI.Persistent (records m K) := by unfold records; infer_instance

/-- What is one device's alone. -/
def linear (c : Dev nD) : sProp 𝕄 :=
  iprop(atPos ER (barCell c) 0 ∅ 0 ∗ openRes (F := F) c ∗ tokRes (F := F) c)
def bundle (c : Dev nD) : sProp 𝕄 := iprop(credRes (F := F) c ∗ owes (c : Thread nD τ) (O₀ c) ∅ ∗ ∃ r, prngReg c r)

theorem reached_at (c : Dev nD) : (bigSep barCells fun g => (reached ER g 0 : sProp 𝕄)) ⊢ reached ER (barCell c) 0 :=
  bigSep_elim (Finset.mem_map_of_mem barE (Finset.mem_univ c))

theorem E_intro (K : GSem nD τ sig → ℕ) (c : Dev nD) : iprop(records m K ∗ (linear (F := F) c ∗ bundle c)) ⊢ E m 0 c := by
  unfold records linear bundle E Tk
  iintro ⟨⟨#HI, #HR⟩, ⟨Hat, Hop, Htk⟩, Hcr, HO, Hp⟩
  isplitr [HO Hp]
  · isplitr; · iexists K; iexact HI
    isplitl [Hat]
    · isplitr; · iapply (reached_at (F := F) (nbr false c)); iexact HR
      isplitr; · iapply (reached_at (F := F) (nbr true c)); iexact HR
      iexact Hat
    isplitl [Htk]; · iexact Htk
    isplitl [Hop] <;> iassumption
  isplitl [Hp]; · iexact Hp
  iexists ∅; iexact HO

theorem unscoped_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- At the start every device has what its run needs. -/
theorem init : iprop((bigSep Finset.univ fun c : Dev nD => iprop(unscopedSems0 c ∗ owes (c : Thread nD τ) (O₀ c) ∅ ∗ Pipeline.launchCred O₀ c ∗ prngReg c (ρ c) ∗ G (F := F) c))
      ∗ levAts L lv) ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(bundle c ∗ (semVal (barCell c) 0 ∗ G (F := F) c)) : sProp 𝕄) := by
    rw [unscoped_eq]
    unfold bundle
    iintro ⟨Hus, HO, Hcr, Hp, HG⟩
    ihave Hc := (creds (F := F) c) $$ Hcr
    isplitl [Hc HO Hp]
    · isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barE (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barE (Φ := fun g : GSem nD τ sig => (atPos ER g 0 ∅ 0 : sProp 𝕄)))
  have hop : bigSep scCells (fun g => (openTok ER g : sProp 𝕄)) ⊢ bigSep Finset.univ (fun c : Dev nD => openRes (F := F) c) :=
    Entails.of_eq ((bigSep_map ..).trans (bigSep_univ_prod _))
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop(bundle c ∗ (semVal (barCell c) 0 ∗ G (F := F) c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells scCells toks)) from
    Entails.of_eq (bigSep_onDev (F := F) (BI.own (ER (launchOf barCells scCells toks))))) $$ HG
  imod (Rounds.fund_launch ER (Rd (PP m)) cells_disj (fun g _ h => h) toks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear (F := F) c ∗ bundle c)) fun c _ => E_intro m K c)
  isplitr
  · unfold records recs
    isplitr; · iexact Hinv
    iexact Hr
  iapply bigSep_pair
  isplitr [HB]
  · unfold linear
    iapply bigSep_pair; isplitl [Hat]; · iapply hat $$ Hat
    iapply bigSep_pair; isplitl [Hopen]; · iapply hop $$ Hopen
    iapply (toks_dealt (F := F)) $$ Htok
  · iexact HB

/-! ## The run -/

theorem arr_unscoped (w : Fin 5) : (Pipeline.arrRef spec0 w).isScoped = false := by revert w; decide

theorem reg0_pre (c : Dev nD) : iprop(StableHlo.held (c : Thread nD τ) (Pipeline.ucRefs τ sig) (V1 m c) ∗ E m 0 c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) Sr (V1 m c) ∗ emp) ∗ Tk (PP m) c ∗ ∃ Wd, owes (c : Thread nD τ) (0 + O₀ c) Wd)
  rw [zero_add, StableHlo.held_sub_split (c.tc : Thread nD τ) (Pipeline.arrRefs_sub_ucRefs (τ := τ) spec0 arr_unscoped) (V1 m c)]
  unfold E
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

theorem reg0_post (c : Dev nD) : (reg0 m).post c
    ⊢ iprop(StableHlo.held (c : Thread nD τ) (Pipeline.ucRefs τ sig) (VN m c) ∗ E m 1 c) := by
  show iprop(StableHlo.held (c.tc : Thread nD τ) (Pipeline.arrRefs (τ := τ) (pcfgs (F := F) 0).spec) (VN m c) ∗ (∃ r, prngReg c r)
    ∗ (StableHlo.held (c.tc : Thread nD τ) Sr (VN m c) ∗ emp) ∗ semVal (barCell c) 0 ∗ ∃ Wd, owes (c : Thread nD τ) (0 : CellTallies nD τ sig Unit) Wd) ⊢ _
  rw [StableHlo.held_sub_split (c.tc : Thread nD τ) (Pipeline.arrRefs_sub_ucRefs (τ := τ) spec0 arr_unscoped) (VN m c)]
  unfold E
  iintro ⟨Ha, -, ⟨Hs, -⟩, Hb, HO⟩
  isplitl [Ha Hs]
  · isplitl [Ha]; · iexact Ha
    iexact Hs
  isplitl [Hb]; · iexact Hb
  iexact HO

theorem VN_arg (c : Dev nD) (r : Ref sig .tc) (h : r ∉ hostOps0_W) (h' : r ≠ main_v18) : VN m c (Proc.devRef .tc r) = m ((c : Thread nD τ).loc r) :=
  (VN_of m c _ (StableHlo.devRef_ne_of_ne h')).trans ((V1_of m c r h).trans rfl)

theorem unscoped_bar : ∀ sm : SemLoc sig, sm.isScoped .tc = false → sm = .reg barS := by decide

/-- What holds of device `c` at the end. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v18) = result m c

set_option backward.isDefEq.respectTransparency.types false in
/-- The run: it ends, with every argument as it was, the result as computed, and every counter at zero. -/
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Seg.run_eq_chain,
        show (segs m 𝒱₀ L lv (E m) () (pdats m) (reg0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (G (F := F)) (u₀ (F := F))
    (by
      unfold u₀ G
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (VN m c) ∗ semVal (barCell c) 0))
    (hch := fun c => ⟨.rfl, reg0_pre m c, (reg0_post m c).trans ?_⟩)
    (hinit := ?_) (QY := fun c s => Ends m c s ∧ s.sem (barCell c) = 0)
    (hfin := fun c s' => ?_) (hQ := fun s h hs => ⟨fun c => (h c).1, sem_eq_zero hs fun c sm hsm => by
        obtain rfl := unscoped_bar sm hsm
        exact (h c).2⟩)
  · unfold E
    iintro ⟨Hh, Hb, HO⟩
    isplitl [Hh Hb]; · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (VN m c) s') $$ [Hh HSI]
    · isplitl [Hh] <;> iassumption
    icases Hr with ⟨%h, HSI⟩
    imodintro
    isplitr
    · ipureintro
      have hat (r : Ref sig .tc) (hr : ¬r.isScoped) : s'.mem.mem ((c.tc : Thread nD τ).loc r) = VN m c (Proc.devRef .tc r) :=
        h (Proc.devRef .tc r) (Finset.mem_filter.mpr ⟨StableHlo.devRef_mem_tcRefs r, hr⟩)
      exact ⟨⟨⟨(hat main_arg0 (by decide)).trans (VN_arg m c main_arg0 (by decide) (by decide)),
        (hat main_arg1 (by decide)).trans (VN_arg m c main_arg1 (by decide) (by decide)),
        (hat main_arg2 (by decide)).trans (VN_arg m c main_arg2 (by decide) (by decide)),
        (hat main_arg3 (by decide)).trans (VN_arg m c main_arg3 (by decide) (by decide)),
        (hat main_arg4 (by decide)).trans (VN_arg m c main_arg4 (by decide) (by decide))⟩,
        (hat main_v18 (by decide)).trans (VN_out m c)⟩, by simpa using hb⟩
    · iexact HSI

end Cert.Exchange
-- ==== Proof.Frames.lean ====
/- Each program ends with its arguments as they were and every counter at zero. -/
module

public import proofs.«01_k».proof.Defs
public import proofs.«01_k».proof.Proof.Launch
public import proofs.«01_k».proof.Proof.Gen.Kernel
public import proofs.«01_k».proof.Proof.Gen.ReferenceIdeal.Run
public import Idealize.ShloMosaic.Adequacy
public import Idealize.ShloMosaic.Init

@[expose] public section

noncomputable section

namespace Cert.Exchange

open Idealize.ShloMosaic Idealize.SL.Sem
open Cert.Kernel.Gen Cert.KernelIdeal.Gen Cert.ReferenceIdeal.Gen

/-- The frame of the kernel over the extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The kernel as printed has the same body table. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl

/-- and so the same definitions. -/
theorem defs_eq : @Cert.Kernel.defs Bits _ _ = @Cert.KernelIdeal.defs Bits _ _ := by
  unfold Cert.Kernel.defs Cert.KernelIdeal.defs
  rw [bodies_eq]; rfl

/-- The kernel as printed has the same text: the run is the one over any floats. -/
theorem frame_kernel : Cert.quiescent_Kernel := by
  unfold Cert.quiescent_Kernel
  rw [defs_eq]
  exact fun m ρ _ => (θ_run Cert.KernelIdeal.defs _ _).mono (fun _ h => ⟨fun c => (h.1 c).1, h.2⟩)
    (run_main (F := Bits) m ρ)

/-- The frame of the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

end Cert.Exchange
-- ==== Proof.Host.lean ====
/- What @main's host operations put into the call's windows, read at an entry of the arguments. -/
module

public import proofs.«01_k».proof.Proof.Region
public import Idealize.ShloMosaic.Lib.Pointwise
public import Idealize.ShloMosaic.Lib.StableHlo.ReadAt
public import Idealize.ShloMosaic.Lib.Tactic.WordOmega

@[expose] public section

noncomputable section

namespace Cert.Exchange

open Cert.KernelIdeal Cert.KernelIdeal.Gen
open Idealize.ShloMosaic Idealize.ShloMosaic.TcCoe

variable (m : (ℓ : Loc nD τ sig) → Buf (Elt Ideal) ℓ) (c : Dev nD)

/-- The rows of the two batches, one above the other. -/
theorem x_apply (b : Fin 2) (i : Fin 128) (k : Fin 512) :
    (inputs m c).x (ix2 ⟨128 * b.val + i.val, by omega⟩ k) = m ((c : Thread nD τ).loc main_arg0) (ix3 b i k) := by
  show V1 m c (Proc.devRef .tc main_v17) (ix2 ⟨128 * b.val + i.val, by omega⟩ k) = _
  unfold V1
  after_reads_at

/-- Head `h` of device `c`, among all heads. -/
def head (c : Dev nD) (h : Fin 4) : Fin 16 := ⟨4 * c.val + h.val, by have h1 : c.val < 4 := c.isLt; omega⟩

/-- Indices with equal coordinates are equal. -/
theorem ix4_eq {n0 n1 n2 n3 : Nat} {a a' : Fin n0} {b b' : Fin n1} {e e' : Fin n2} {f f' : Fin n3} (h0 : a.val = a'.val) (h1 : b.val = b'.val)
    (h2 : e.val = e'.val) (h3 : f.val = f'.val) : ix4 a b e f = ix4 a' b' e' f' := by
  rw [Fin.ext h0, Fin.ext h1, Fin.ext h2, Fin.ext h3]

/-- A one-word array's word, read signed. -/
def firstInt (v : IVec S_ 32) : Int := BitVec.toInt (v (Shape.Idx.first h_S_))

/-- The device's number, as @main computes it from its partition. -/
theorem number_eq (c : Dev nD) : IntOp.remui .host (IntOp.divui .host c.word 1#32) 4#32 = BitVec.ofNat 32 c.val := by
  have h1 : ∀ x : BitVec 32, IntOp.divui .host x 1#32 = x / 1#32 := fun x => if_neg (by decide)
  have h2 : ∀ x : BitVec 32, IntOp.remui .host x 4#32 = x % 4#32 := fun x => if_neg (by decide)
  rw [h1, h2]
  revert c; decide

/-- The device's first head, as @main computes it. -/
theorem wordMul_eq (c : Dev nD) {j : S_.Idx} :
    Scalar.select (IntOp.cmpi CmpIPredicate.slt (IntOp.muli (id (Host.remui (Host.divui (constantI S_ 32 c.word) (constantI S_ 32 1#32)) (constantI S_ 32 4#32)) j) 4#32) 0#32)
      (IntOp.addi (IntOp.muli (id (Host.remui (Host.divui (constantI S_ 32 c.word) (constantI S_ 32 1#32)) (constantI S_ 32 4#32)) j) 4#32) 16#32)
      (IntOp.muli (id (Host.remui (Host.divui (constantI S_ 32 c.word) (constantI S_ 32 1#32)) (constantI S_ 32 4#32)) j) 4#32)
        = BitVec.ofNat 32 (4 * c.val) := by
  have h : id (Host.remui (Host.divui (constantI S_ 32 c.word) (constantI S_ 32 1#32)) (constantI S_ 32 4#32)) j = BitVec.ofNat 32 c.val := number_eq c
  rw [h]
  clear h
  revert c; decide

/-- The first head's number, read signed. -/
theorem toInt_mul (c : Dev nD) : (BitVec.ofNat 32 (4 * c.val)).toInt = ((4 * c.val : Nat) : Int) := by
  revert c; decide

/-- The device's four heads are among the sixteen. -/
theorem fits (c : Dev nD) : 4 * c.val + 4 ≤ 16 := by
  revert c; decide

/-! ## The keys -/

/-- Where the slice of the keys starts: at 0 on every axis but the heads' (the third), and there at the device's first head (`k_start2`). -/
theorem k_start0 : (StableHlo.upto (hostOps0 c) (V0 m c) 16 (Proc.devRef .tc main_c_4) : IVec S_ 32) = constantI S_ 32 0#32 := by
  after_reads_simp
theorem k_start1 : (StableHlo.upto (hostOps0 c) (V0 m c) 16 (Proc.devRef .tc main_c_5) : IVec S_ 32) = constantI S_ 32 0#32 := by
  after_reads_simp
theorem k_start3 : (StableHlo.upto (hostOps0 c) (V0 m c) 16 (Proc.devRef .tc main_c_6) : IVec S_ 32) = constantI S_ 32 0#32 := by
  after_reads_simp
theorem k_start2 : (StableHlo.upto (hostOps0 c) (V0 m c) 16 (Proc.devRef .tc main_v8) : IVec S_ 32)
    = fun _ => BitVec.ofNat 32 (4 * c.val) := by
  after_reads_simp
  funext j
  pointwise
  exact wordMul_eq c

/-- The window of the keys: the device's own heads, the heads before the rows. -/
theorem k_apply (b : Fin 2) (h : Fin 4) (j : Fin 128) (d : Fin 64) :
    (inputs m c).k (ix4 b h j d) = m ((c : Thread nD τ).loc main_arg2) (ix4 b j (head c h) d) := by
  show V1 m c (Proc.devRef .tc main_v15) (ix4 b h j d) = _
  unfold V1
  after_reads_at
  refine congrArg (m _) (ix4_eq ?_ ?_ ?_ ?_)
  · refine (congrArg (· + b.val) (Host.clampedStart_of_le _ _ _ 0 ?_ (by decide))).trans (Nat.zero_add _)
    exact congrArg firstInt (k_start0 m c)
  · refine (congrArg (· + j.val) (Host.clampedStart_of_le _ _ _ 0 ?_ (by decide))).trans (Nat.zero_add _)
    exact congrArg firstInt (k_start1 m c)
  · refine congrArg (· + h.val) (Host.clampedStart_of_le _ _ _ (4 * c.val) ?_ (fits c))
    exact (congrArg firstInt (k_start2 m c)).trans (toInt_mul c)
  · refine (congrArg (· + d.val) (Host.clampedStart_of_le _ _ _ 0 ?_ (by decide))).trans (Nat.zero_add _)
    exact congrArg firstInt (k_start3 m c)

/-! ## The values -/

/-- Where the slice of the values starts, likewise. -/
theorem v_start0 : (StableHlo.upto (hostOps0 c) (V0 m c) 27 (Proc.devRef .tc main_c_10) : IVec S_ 32) = constantI S_ 32 0#32 := by
  after_reads_simp
theorem v_start1 : (StableHlo.upto (hostOps0 c) (V0 m c) 27 (Proc.devRef .tc main_c_11) : IVec S_ 32) = constantI S_ 32 0#32 := by
  after_reads_simp
theorem v_start3 : (StableHlo.upto (hostOps0 c) (V0 m c) 27 (Proc.devRef .tc main_c_12) : IVec S_ 32) = constantI S_ 32 0#32 := by
  after_reads_simp
theorem v_start2 : (StableHlo.upto (hostOps0 c) (V0 m c) 27 (Proc.devRef .tc main_v13) : IVec S_ 32)
    = fun _ => BitVec.ofNat 32 (4 * c.val) := by
  after_reads_simp
  funext j
  pointwise
  exact wordMul_eq c

/-- The window of the values: the device's own heads, the heads before the rows. -/
theorem v_apply (b : Fin 2) (h : Fin 4) (j : Fin 128) (d : Fin 64) :
    (inputs m c).v (ix4 b h j d) = m ((c : Thread nD τ).loc main_arg3) (ix4 b j (head c h) d) := by
  show V1 m c (Proc.devRef .tc main_v16) (ix4 b h j d) = _
  unfold V1
  after_reads_at
  refine congrArg (m _) (ix4_eq ?_ ?_ ?_ ?_)
  · refine (congrArg (· + b.val) (Host.clampedStart_of_le _ _ _ 0 ?_ (by decide))).trans (Nat.zero_add _)
    exact congrArg firstInt (v_start0 m c)
  · refine (congrArg (· + j.val) (Host.clampedStart_of_le _ _ _ 0 ?_ (by decide))).trans (Nat.zero_add _)
    exact congrArg firstInt (v_start1 m c)
  · refine congrArg (· + h.val) (Host.clampedStart_of_le _ _ _ (4 * c.val) ?_ (fits c))
    exact (congrArg firstInt (v_start2 m c)).trans (toInt_mul c)
  · refine (congrArg (· + d.val) (Host.clampedStart_of_le _ _ _ 0 ?_ (by decide))).trans (Nat.zero_add _)
    exact congrArg firstInt (v_start3 m c)

/-! ## The weights, as they are -/

/-- The query weights are the argument itself. -/
theorem w_eq : (inputs m c).w = m ((c : Thread nD τ).loc main_arg1) := by
  show V1 m c (Proc.devRef .tc main_arg1) = _
  unfold V1
  after_reads_simp

/-- The output weights are the argument itself. -/
theorem o_eq : (inputs m c).o = m ((c : Thread nD τ).loc main_arg4) := by
  show V1 m c (Proc.devRef .tc main_arg4) = _
  unfold V1
  after_reads_simp

end Cert.Exchange

end
-- ==== Proof.Partial.lean ====
/- What one device computes before the exchange, read at an entry: its four heads' attention, projected. -/
module

public import proofs.«01_k».proof.Proof.Body
public import Idealize.ShloMosaic.Lib.Pipeline.ValueKit.Geometry
public import Idealize.ShloMosaic.Lib.Pointwise

@[expose] public section

noncomputable section

namespace Cert.Exchange

open Cert.KernelIdeal Cert.KernelIdeal.Gen
open Idealize.ShloMosaic

/-! ## The mathematics -/

/-- The scale of the scores, one eighth. -/
def scale : EReal := Ideal.ofBits FTy.f32 0x3E000000#32

/-- The greatest entry of a row. -/
def rowMax (s : Fin 128 → EReal) : EReal := Finset.fold max (Ideal.ofBits FTy.f32 0xFF800000#32) s Finset.univ

/-- The attention weights of a row of scores. -/
def weight (s : Fin 128 → EReal) (j : Fin 128) : EReal :=
  Ideal.div (Ideal.exp (s j - rowMax s)) (∑ l, Ideal.exp (s l - rowMax s))

section Local

variable (I : Inputs Ideal)

/-- Row `i` of batch `b` of the scaled queries. -/
def localQuery (b : Fin 2) (i : Fin 128) (n : Fin 256) : EReal :=
  (∑ k : Fin 512, I.x (ix2 ⟨128 * b.val + i.val, by omega⟩ k) * I.w (ix2 k n)) * scale

/-- The scores of head `h`. -/
def localScore (b : Fin 2) (h : Fin 4) (i j : Fin 128) : EReal :=
  ∑ d : Fin 64, localQuery I b i ⟨64 * h.val + d.val, by omega⟩ * I.k (ix4 b h j d)

/-- The context of head `h`. -/
def localCtx (b : Fin 2) (h : Fin 4) (i : Fin 128) (d : Fin 64) : EReal :=
  ∑ j : Fin 128, weight (localScore I b h i) j * I.v (ix4 b h j d)

/-- The partial result. -/
def localOut (b : Fin 2) (i : Fin 128) (o : Fin 512) : EReal :=
  ∑ n : Fin 256, localCtx I b ⟨n.val / 64, by omega⟩ i ⟨n.val % 64, by omega⟩ * I.o (ix2 n o)

end Local

/-! ## The payloads -/

theorem kvR_val (b : Fin 2) (h : Fin 4) (j : S1x1x128x64.Idx) (a : Fin 4) :
    ((kvR b h).emb j a).val = (![b.val, h.val, 0, 0] : Fin 4 → Nat) a + (j a).val :=
  ValueKit.rect_emb_unit_val (s := S2x4x128x64) _ _ _ j a

/-- A head of the keys or values, at an entry. -/
theorem headOf_apply (b : Fin 2) (h : Fin 4) (f : Vec Ideal S2x4x128x64 .f32) (j : Fin 128) (d : Fin 64) :
    headOf b h f (ix4 0 0 j d) = f (ix4 b h j d) := by
  refine congrArg f (funext fun a => Fin.ext ?_)
  rw [kvR_val]
  fin_cases a
  · exact Nat.add_zero _
  · exact Nat.add_zero _
  · exact Nat.zero_add _
  · exact Nat.zero_add _

/-- The scaled queries, at an entry. -/
theorem query_apply (x : Vec Ideal S256x512 .f32) (w : Vec Ideal S512x256 .f32) (r c : Fin 256) :
    k0_pay1 x w (ix2 r c) = (∑ k : Fin 512, x (ix2 r k) * w (ix2 k c)) * scale := by
  pointwise [k0_pay1, scale]

/-- The rows of four score blocks, one above the other. -/
def stacked (s : Fin 4 → Fin 128 → Fin 128 → EReal) (r : Fin 512) (j : Fin 128) : EReal :=
  if h : r.val < 128 then s 0 ⟨r.val, h⟩ j
  else if h : r.val - 128 < 128 then s 1 ⟨r.val - 128, h⟩ j
  else if h : r.val - 128 - 128 < 128 then s 2 ⟨r.val - 128 - 128, h⟩ j
  else s 3 ⟨r.val - 128 - 128 - 128, by omega⟩ j

/-- Four heads stacked by rows: the row names the head. -/
theorem stacked_at (s : Fin 4 → Fin 128 → Fin 128 → EReal) (h : Fin 4) (i : Fin 128) (r : Fin 512) (hr : r.val = 128 * h.val + i.val) :
    stacked s r = s h i := by
  funext j
  obtain ⟨i, hi⟩ := i
  obtain ⟨r, hr'⟩ := r
  subst hr
  unfold stacked
  fin_cases h
  · rw [dif_pos (by show 128 * 0 + i < 128; omega)]; congr 2; show 128 * 0 + i = i; omega
  · rw [dif_neg (by show ¬ 128 * 1 + i < 128; omega), dif_pos (by show 128 * 1 + i - 128 < 128; omega)]
    congr 2; show 128 * 1 + i - 128 = i; omega
  · rw [dif_neg (by show ¬ 128 * 2 + i < 128; omega), dif_neg (by show ¬ 128 * 2 + i - 128 < 128; omega),
      dif_pos (by show 128 * 2 + i - 128 - 128 < 128; omega)]
    congr 2; show 128 * 2 + i - 128 - 128 = i; omega
  · rw [dif_neg (by show ¬ 128 * 3 + i < 128; omega), dif_neg (by show ¬ 128 * 3 + i - 128 < 128; omega),
      dif_neg (by show ¬ 128 * 3 + i - 128 - 128 < 128; omega)]
    congr 2; show 128 * 3 + i - 128 - 128 - 128 = i; omega

/-- The weights of batch 0 are those of the stacked scores. -/
theorem weights0_apply (q : FVec Ideal S256x256 .f32) (s0 s1 : FVec Ideal S128x128 .f32) (q2 : FVec Ideal S128x64 .f32)
    (k2 k3 : Vec Ideal S1x1x128x64 .f32) (r : Fin 512) (l : Fin 128) :
    k0_pay5 q s0 s1 q2 k2 k3 (ix2 r l)
      = weight (stacked ![fun i j => s0 (ix2 i j), fun i j => s1 (ix2 i j), fun i j => ∑ d : Fin 64, q2 (ix2 i d) * k2 (ix4 0 0 j d),
          fun i j => ∑ d : Fin 64, q (ix2 ⟨i.val, by omega⟩ ⟨192 + d.val, by omega⟩) * k3 (ix4 0 0 j d)] r) l := by
  pointwise [k0_pay5]
  rfl

/-- The weights of batch 1. -/
theorem weights1_apply (q : FVec Ideal S256x256 .f32) (k0 k1 k2 k3 : Vec Ideal S1x1x128x64 .f32) (r : Fin 512) (l : Fin 128) :
    k0_pay15 q k0 k1 k2 k3 (ix2 r l)
      = weight (stacked ![fun i j => ∑ d : Fin 64, q (ix2 ⟨128 + i.val, by omega⟩ ⟨d.val, by omega⟩) * k0 (ix4 0 0 j d),
          fun i j => ∑ d : Fin 64, q (ix2 ⟨128 + i.val, by omega⟩ ⟨64 + d.val, by omega⟩) * k1 (ix4 0 0 j d),
          fun i j => ∑ d : Fin 64, q (ix2 ⟨128 + i.val, by omega⟩ ⟨128 + d.val, by omega⟩) * k2 (ix4 0 0 j d),
          fun i j => ∑ d : Fin 64, q (ix2 ⟨128 + i.val, by omega⟩ ⟨192 + d.val, by omega⟩) * k3 (ix4 0 0 j d)] r) l := by
  pointwise [k0_pay15]
  rfl

/-- The scores of the first batch's first head, from the queries, at an entry, -/
theorem score00_apply (x : Vec Ideal S256x512 .f32) (w : Vec Ideal S512x256 .f32) (k : Vec Ideal S1x1x128x64 .f32) (i j : Fin 128) :
    k0_pay2 x w k (ix2 i j) = ∑ d : Fin 64, k0_pay1 x w (ix2 ⟨i.val, by omega⟩ ⟨d.val, by omega⟩) * k (ix4 0 0 j d) := by
  pointwise [k0_pay2]
/-- and of its second head. -/
theorem score01_apply (x : Vec Ideal S256x512 .f32) (w : Vec Ideal S512x256 .f32) (k : Vec Ideal S1x1x128x64 .f32) (i j : Fin 128) :
    k0_pay3 x w k (ix2 i j) = ∑ d : Fin 64, k0_pay1 x w (ix2 ⟨i.val, by omega⟩ ⟨64 + d.val, by omega⟩) * k (ix4 0 0 j d) := by
  pointwise [k0_pay3]
/-- The queries of its third head. -/
theorem query02_apply (x : Vec Ideal S256x512 .f32) (w : Vec Ideal S512x256 .f32) (i : Fin 128) (d : Fin 64) :
    k0_pay4 x w (ix2 i d) = k0_pay1 x w (ix2 ⟨i.val, by omega⟩ ⟨128 + d.val, by omega⟩) := by
  pointwise [k0_pay4]

/-! ## The partial result -/

section

variable (I : Inputs Ideal)

/-- The context, one head beside the other. -/
def beside (c : Fin 4 → Fin 64 → EReal) (n : Fin 256) : EReal :=
  if h : n.val < 64 then c 0 ⟨n.val, h⟩
  else if h : n.val - 64 < 64 then c 1 ⟨n.val - 64, h⟩
  else if h : n.val - 64 - 64 < 64 then c 2 ⟨n.val - 64 - 64, h⟩
  else c 3 ⟨n.val - 64 - 64 - 64, by omega⟩

/-- Four heads side by side: the column names the head. -/
theorem beside_eq (c : Fin 4 → Fin 64 → EReal) (n : Fin 256) : beside c n = c ⟨n.val / 64, by omega⟩ ⟨n.val % 64, by omega⟩ := by
  obtain ⟨n, hn⟩ := n
  have key : ∀ (h : Fin 4) (d : Fin 64), n / 64 = h.val → n % 64 = d.val → c h d = c ⟨n / 64, by omega⟩ ⟨n % 64, by omega⟩ := by
    intro h d h1 h2
    exact congrArg₂ c (Fin.ext h1.symm) (Fin.ext h2.symm)
  unfold beside
  split
  · rename_i h; exact key 0 _ (by show n / 64 = 0; have : n < 64 := h; omega) (by show n % 64 = n; have : n < 64 := h; omega)
  split
  · rename_i h0 h; replace h0 : ¬ n < 64 := h0; replace h : n - 64 < 64 := h
    exact key 1 _ (by show n / 64 = 1; omega) (by show n % 64 = n - 64; omega)
  split
  · rename_i h0 h1 h; replace h0 : ¬ n < 64 := h0; replace h1 : ¬ n - 64 < 64 := h1; replace h : n - 64 - 64 < 64 := h
    exact key 2 _ (by show n / 64 = 2; omega) (by show n % 64 = n - 64 - 64; omega)
  · rename_i h0 h1 h; replace h0 : ¬ n < 64 := h0; replace h1 : ¬ n - 64 < 64 := h1; replace h : ¬ n - 64 - 64 < 64 := h
    exact key 3 _ (by show n / 64 = 3; omega) (by show n % 64 = n - 64 - 64 - 64; omega)

/-- A choice among four, by number. -/
theorem four_eq {α : Type} (f0 f1 f2 f3 : α) (g : Fin 4 → α) (h0 : f0 = g 0) (h1 : f1 = g 1) (h2 : f2 = g 2) (h3 : f3 = g 3) :
    ![f0, f1, f2, f3] = g := by
  subst h0 h1 h2 h3
  funext h
  fin_cases h <;> rfl

/-- One product of a score. -/
theorem product_at (b : Fin 2) (h : Fin 4) (i j : Fin 128) (d : Fin 64) (r c : Fin 256) (hr : r.val = 128 * b.val + i.val)
    (hc : c.val = 64 * h.val + d.val) :
    k0_pay1 I.x I.w (ix2 r c) * headOf b h I.k (ix4 0 0 j d) = localQuery I b i ⟨64 * h.val + d.val, by omega⟩ * I.k (ix4 b h j d) := by
  have e1 : r = ⟨128 * b.val + i.val, by omega⟩ := Fin.ext hr
  have e2 : c = ⟨64 * h.val + d.val, by omega⟩ := Fin.ext hc
  rw [headOf_apply, query_apply, e1]
  exact congrArg (· * _) (congrArg (localQuery I b i) e2)

/-- The scores of batch 0, stacked. -/
theorem stack0 : (![fun i j => k0_pay2 I.x I.w (headOf 0 0 I.k) (ix2 i j), fun i j => k0_pay3 I.x I.w (headOf 0 1 I.k) (ix2 i j),
      fun i j => ∑ d : Fin 64, k0_pay4 I.x I.w (ix2 i d) * headOf 0 2 I.k (ix4 0 0 j d),
      fun i j => ∑ d : Fin 64, k0_pay1 I.x I.w (ix2 ⟨i.val, by omega⟩ ⟨192 + d.val, by omega⟩) * headOf 0 3 I.k (ix4 0 0 j d)]
        : Fin 4 → Fin 128 → Fin 128 → EReal) = localScore I 0 := by
  refine four_eq _ _ _ _ _ ?_ ?_ ?_ ?_ <;> funext i j
  · exact (score00_apply ..).trans (Finset.sum_congr rfl fun d _ => product_at I 0 0 i j d _ _ (Nat.zero_add _).symm (Nat.zero_add _).symm)
  · exact (score01_apply ..).trans (Finset.sum_congr rfl fun d _ => product_at I 0 1 i j d _ _ (Nat.zero_add _).symm rfl)
  · refine Finset.sum_congr rfl fun d _ => ?_
    rw [query02_apply]
    exact product_at I 0 2 i j d _ _ (Nat.zero_add _).symm rfl
  · exact Finset.sum_congr rfl fun d _ => product_at I 0 3 i j d _ _ (Nat.zero_add _).symm rfl

/-- The scores of batch 1, stacked. -/
theorem stack1 : (![fun i j => ∑ d : Fin 64, k0_pay1 I.x I.w (ix2 ⟨128 + i.val, by omega⟩ ⟨d.val, by omega⟩) * headOf 1 0 I.k (ix4 0 0 j d),
      fun i j => ∑ d : Fin 64, k0_pay1 I.x I.w (ix2 ⟨128 + i.val, by omega⟩ ⟨64 + d.val, by omega⟩) * headOf 1 1 I.k (ix4 0 0 j d),
      fun i j => ∑ d : Fin 64, k0_pay1 I.x I.w (ix2 ⟨128 + i.val, by omega⟩ ⟨128 + d.val, by omega⟩) * headOf 1 2 I.k (ix4 0 0 j d),
      fun i j => ∑ d : Fin 64, k0_pay1 I.x I.w (ix2 ⟨128 + i.val, by omega⟩ ⟨192 + d.val, by omega⟩) * headOf 1 3 I.k (ix4 0 0 j d)]
        : Fin 4 → Fin 128 → Fin 128 → EReal) = localScore I 1 := by
  refine four_eq _ _ _ _ _ ?_ ?_ ?_ ?_ <;> funext i j
  · exact Finset.sum_congr rfl fun d _ => product_at I 1 0 i j d _ _ rfl (Nat.zero_add _).symm
  · exact Finset.sum_congr rfl fun d _ => product_at I 1 1 i j d _ _ rfl rfl
  · exact Finset.sum_congr rfl fun d _ => product_at I 1 2 i j d _ _ rfl rfl
  · exact Finset.sum_congr rfl fun d _ => product_at I 1 3 i j d _ _ rfl rfl

/-- One head's context, from a row of the stacked weights. -/
theorem ctx_at (b : Fin 2) (h : Fin 4) (i : Fin 128) (d : Fin 64) (r : Fin 512) (hr : r.val = 128 * h.val + i.val) :
    (∑ j : Fin 128, weight (stacked (localScore I b) r) j * headOf b h I.v (ix4 0 0 j d)) = localCtx I b h i d := by
  refine Finset.sum_congr rfl fun j _ => ?_
  rw [stacked_at _ h i r hr, headOf_apply]

/-- The projection of four contexts. -/
theorem out_at (b : Fin 2) (i : Fin 128) (o : Fin 512) (c : Fin 4 → Fin 64 → EReal) (hc : ∀ h d, c h d = localCtx I b h i d) :
    (∑ n : Fin 256, beside c n * I.o (ix2 n o)) = localOut I b i o := by
  refine Finset.sum_congr rfl fun n _ => ?_
  rw [beside_eq, hc]

/-- The first batch's partial result, at an entry, -/
theorem part0_apply (i : Fin 128) (o : Fin 512) : partialOf I 0 (ix2 i o) = localOut I 0 i o := by
  show k0_pay10 _ _ _ _ _ (ix2 i o) = _
  pointwise [k0_pay10, k0_pay6, k0_pay7, k0_pay8, k0_pay9]
  simp only [weights0_apply]
  rw [stack0]
  exact out_at I 0 i o ![fun d => ∑ j : Fin 128, weight (stacked (localScore I 0) ⟨i.val, by omega⟩) j * headOf 0 0 I.v (ix4 0 0 j d),
    fun d => ∑ j : Fin 128, weight (stacked (localScore I 0) ⟨128 + i.val, by omega⟩) j * headOf 0 1 I.v (ix4 0 0 j d),
    fun d => ∑ j : Fin 128, weight (stacked (localScore I 0) ⟨256 + i.val, by omega⟩) j * headOf 0 2 I.v (ix4 0 0 j d),
    fun d => ∑ j : Fin 128, weight (stacked (localScore I 0) ⟨384 + i.val, by omega⟩) j * headOf 0 3 I.v (ix4 0 0 j d)] (by
      intro h d
      fin_cases h
      · exact ctx_at I 0 0 i d _ (Nat.zero_add _).symm
      · exact ctx_at I 0 1 i d _ rfl
      · exact ctx_at I 0 2 i d _ rfl
      · exact ctx_at I 0 3 i d _ rfl)

/-- and the second's. -/
theorem part1_apply (i : Fin 128) (o : Fin 512) : partialOf I 1 (ix2 i o) = localOut I 1 i o := by
  show k0_pay17 _ _ _ _ _ _ _ (ix2 i o) = _
  pointwise [k0_pay17, k0_pay16]
  simp only [weights1_apply]
  rw [stack1]
  exact out_at I 1 i o ![fun d => ∑ j : Fin 128, weight (stacked (localScore I 1) ⟨i.val, by omega⟩) j * headOf 1 0 I.v (ix4 0 0 j d),
    fun d => ∑ j : Fin 128, weight (stacked (localScore I 1) ⟨128 + i.val, by omega⟩) j * headOf 1 1 I.v (ix4 0 0 j d),
    fun d => ∑ j : Fin 128, weight (stacked (localScore I 1) ⟨256 + i.val, by omega⟩) j * headOf 1 2 I.v (ix4 0 0 j d),
    fun d => ∑ j : Fin 128, weight (stacked (localScore I 1) ⟨384 + i.val, by omega⟩) j * headOf 1 3 I.v (ix4 0 0 j d)] (by
      intro h d
      fin_cases h
      · exact ctx_at I 1 0 i d _ (Nat.zero_add _).symm
      · exact ctx_at I 1 1 i d _ rfl
      · exact ctx_at I 1 2 i d _ rfl
      · exact ctx_at I 1 3 i d _ rfl)

/-- A device's partial result, entry by entry. -/
theorem partial_apply (b : Fin 2) (i : Fin 128) (o : Fin 512) : partialOf I b (ix2 i o) = localOut I b i o := by
  fin_cases b
  · exact part0_apply I i o
  · exact part1_apply I i o

end

end Cert.Exchange

end
-- ==== Proof.Total.lean ====
/- What the exchange leaves, read at an entry: the sum of the devices' partial results, on every device. -/
module

public import proofs.«01_k».proof.Proof.Partial
public import proofs.«01_k».proof.Proof.Region
public import Idealize.ShloMosaic.Lib.Pointwise.IndexBridge

@[expose] public section

noncomputable section

namespace Cert.Exchange

open Cert.KernelIdeal Cert.KernelIdeal.Gen
open Idealize.ShloMosaic

/-- Row `a` of the `j`-th quarter of a batch is row `32 j + a`. -/
theorem cut_apply (j : Fin 4) (p : FVec Ideal S128x512 .f32) (a : Fin 32) (o : Fin 512) :
    cut j p (ix3 0 a o) = p (ix2 ⟨32 * j.val + a.val, by omega⟩ o) := by
  pointwise [cut]

/-- The first sum of two slots, at an entry: the narrowing and the widening change nothing. -/
theorem pair_apply (x y : Vec Ideal S1x32x512 .bf16) (a : Fin 32) (o : Fin 512) :
    k0_pay22 x y (ix3 0 a o) = x (ix3 0 a o) + y (ix3 0 a o) := by
  pointwise [k0_pay22]

/-- The second sum of two slots, at an entry. -/
theorem full_apply (x y : Vec Ideal S1x32x512 .bf16) (a : Fin 32) (o : Fin 512) :
    k0_pay30 x y (ix3 0 a o) = x (ix3 0 a o) + y (ix3 0 a o) := by
  pointwise [k0_pay30]

/-- The two exchanges of a chunk go along different axes. -/
theorem side_other (i : Fin 8) : side (snd2 i) = !side (fst1 i) := by revert i; decide

/-- A device, its neighbours and the one across are all four devices. -/
theorem four_devices (f : Dev nD → EReal) (s : Bool) (c : Dev nD) :
    f c + f (nbr s c) + (f (nbr (!s) c) + f (nbr s (nbr (!s) c))) = ∑ d : Dev nD, f d := by
  have all : ∀ (s : Bool) (c : Dev nD), (Finset.univ : Finset (Dev nD)) = {c, nbr s c, nbr (!s) c, nbr s (nbr (!s) c)} := by decide
  have d1 : ∀ (s : Bool) (c : Dev nD), c ∉ ({nbr s c, nbr (!s) c, nbr s (nbr (!s) c)} : Finset (Dev nD)) := by decide
  have d2 : ∀ (s : Bool) (c : Dev nD), nbr s c ∉ ({nbr (!s) c, nbr s (nbr (!s) c)} : Finset (Dev nD)) := by decide
  have d3 : ∀ (s : Bool) (c : Dev nD), nbr (!s) c ∉ ({nbr s (nbr (!s) c)} : Finset (Dev nD)) := by decide
  rw [all s c, Finset.sum_insert (d1 s c), Finset.sum_insert (d2 s c), Finset.sum_insert (d3 s c), Finset.sum_singleton, add_assoc]

/-- A finished chunk is the sum of the four devices' chunks. -/
theorem fullSum_apply (P : Dev nD → Fin 8 → Vec Ideal S1x32x512 .bf16) (c : Dev nD) (i : Fin 8) (a : Fin 32) (o : Fin 512) :
    fullSum P c i (ix3 0 a o) = ∑ d : Dev nD, (P d i (ix3 0 a o) : EReal) := by
  rw [fullSum, full_apply, pairSum, pairSum, pair_apply, pair_apply]
  rw [show peer (snd2 i) c = nbr (!side (fst1 i)) c from congrArg (nbr · c) (side_other i)]
  exact four_devices (fun d => P d i (ix3 0 a o)) (side (fst1 i)) c

variable (m : (ℓ : Loc nD τ sig) → Buf (Elt Ideal) ℓ)

/-- The result on device `c`. -/
theorem result_apply (c : Dev nD) (b : Fin 2) (i : Fin 128) (o : Fin 512) :
    result m c (ix3 b i o) = ∑ d : Dev nD, localOut (inputs m d) b i o := by
  have hp : placeAt (ix3 b i o) = ix3 0 ⟨i.val % 32, Nat.mod_lt _ (by decide)⟩ o := (ix3_eq_valueIdx ..).symm
  show fullSum (PP m) c (chunkAt (ix3 b i o)) (placeAt (ix3 b i o)) = _
  rw [hp, fullSum_apply]
  refine Finset.sum_congr rfl fun d _ => ?_
  show cut _ _ _ = _
  rw [cut_apply, partial_apply]
  have hb : (chunkAt (ix3 b i o)).val = 4 * b.val + i.val / 32 := rfl
  congr 1
  · exact Fin.ext (by show (chunkAt (ix3 b i o)).val / 4 = b.val; rw [hb]; omega)
  · exact Fin.ext (by show 32 * ((chunkAt (ix3 b i o)).val % 4) + i.val % 32 = i.val; rw [hb]; omega)

end Cert.Exchange

end
-- ==== Proof.Whole.lean ====
/- What the reference computes, read at an entry. -/
module

public import proofs.«01_k».proof.Proof.Partial
public import proofs.«01_k».proof.Proof.Gen.ReferenceIdeal.Run
public import Idealize.ShloMosaic.Lib.Tactic.CleanTypes

@[expose] public section

noncomputable section

namespace Cert.Exchange

open Cert.ReferenceIdeal Cert.ReferenceIdeal.Gen Cert.ReferenceIdeal.Value
open Idealize.ShloMosaic

/-! ## The window, which leaves out nothing here -/

/-- The distance between two positions, as a word, is at most 127. -/
theorem absi_ofNat_sub (i j : Fin 128) :
    (IntOp.absi (IntOp.subi (BitVec.ofNat 32 i.val) (BitVec.ofNat 32 j.val))).toInt ≤ 127 := by
  obtain ⟨i, hi⟩ := i
  obtain ⟨j, hj⟩ := j
  show (if (BitVec.ofNat 32 i - BitVec.ofNat 32 j).msb then -(BitVec.ofNat 32 i - BitVec.ofNat 32 j)
    else BitVec.ofNat 32 i - BitVec.ofNat 32 j).toInt ≤ 127
  have e : (BitVec.ofNat 32 i - BitVec.ofNat 32 j).toNat = (4294967296 - j + i) % 4294967296 := by
    rw [BitVec.toNat_sub, BitVec.toNat_ofNat, BitVec.toNat_ofNat]; omega
  split <;> rename_i h <;> rw [BitVec.msb_eq_decide] at h <;> simp only [decide_eq_true_eq, e] at h
  · rw [BitVec.toInt_eq_toNat_cond, BitVec.toNat_neg, e]; split <;> omega
  · rw [BitVec.toInt_eq_toNat_cond, e]; split <;> omega

/-- Two positions are at most 128 apart. -/
theorem near (i j : Fin 128) :
    IntOp.cmpi CmpIPredicate.sle (IntOp.absi (IntOp.subi (BitVec.ofNat 32 i.val) (BitVec.ofNat 32 j.val))) 128#32 = 1#1 := by
  have h := absi_ofNat_sub i j
  show BitVec.ofBool (BitVec.sle _ _) = _
  rw [show BitVec.sle _ 128#32 = true from decide_eq_true (h.trans (by decide))]
  rfl

/-- Every row keeps something. -/
theorem any_one : Finset.fold IntOp.ori (0#1) (fun _ : Fin 128 => 1#1) Finset.univ = 1#1 := by decide

section

variable (a0 : Vec Ideal S2x128x512 .f32) (a1 : Vec Ideal S512x1024 .f32) (a2 a3 : Vec Ideal S2x128x16x64 .f32) (a4 : Vec Ideal S1024x512 .f32)

/-- The queries. -/
def wholeQuery (b : Fin 2) (i : Fin 128) (n : Fin 1024) : EReal := ∑ k : Fin 512, a0 (ix3 b i k) * a1 (ix2 k n)

/-- The scores of a head. -/
def wholeScore (b : Fin 2) (h : Fin 16) (i j : Fin 128) : EReal :=
  (∑ d : Fin 64, wholeQuery a0 a1 b i ⟨h.val * 64 + d.val, by omega⟩ * a2 (ix4 b j h d)) * scale

/-- The context of a head. -/
def wholeCtx (b : Fin 2) (h : Fin 16) (i : Fin 128) (d : Fin 64) : EReal :=
  ∑ j : Fin 128, a3 (ix4 b j h d) * weight (wholeScore a0 a1 a2 b h i) j

/-- The attention's output. -/
def wholeOut (b : Fin 2) (i : Fin 128) (o : Fin 512) : EReal :=
  ∑ n : Fin 1024, wholeCtx a0 a1 a2 a3 b ⟨n.val / 64, by omega⟩ i ⟨n.val % 64, by omega⟩ * a4 (ix2 n o)

end

set_option maxRecDepth 16384 in
/-- The reference's result is the attention's output. -/
theorem reference_apply (m : (ℓ : Loc nD τ sig) → Buf (Elt Ideal) ℓ) (c : Dev nD) (b : Fin 2) (i : Fin 128) (o : Fin 512) :
    res_main_v34 m c (ix3 b i o) = wholeOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) b i o := by
  unfold res_main_v34
  clean_types
  pointwise
  simp only [near, any_one]
  rfl

end Cert.Exchange

end
-- ==== Proof.Equation.lean ====
/- The four devices' partial results add up to the reference's result, and so the two programs agree. -/
module

public import proofs.«01_k».proof.Proof.Frames
public import proofs.«01_k».proof.Proof.Host
public import proofs.«01_k».proof.Proof.Total
public import proofs.«01_k».proof.Proof.Whole
public import Idealize.ShloMosaic.Lib.Layout

@[expose] public section

noncomputable section

namespace Cert.Exchange

open Idealize.ShloMosaic Idealize.SL.Sem

/-! ## The scale comes out of a sum -/

/-- The scale is one eighth. -/
theorem scale_eq : scale = ((1 / 8 : ℝ) : EReal) := by
  unfold scale
  simp [Ideal.ofBits, Ideal.ieee, -EReal.coe_mul]
  norm_num

/-- The scale is not negative -/
theorem scale_nonneg : 0 ≤ scale := by
  rw [scale_eq]; exact EReal.coe_nonneg.2 (by norm_num)

/-- and is finite. -/
theorem scale_ne_top : scale ≠ ⊤ := by
  rw [scale_eq]; exact EReal.coe_ne_top _

/-- A sum of scaled entries is the scaled sum, infinite entries and all. -/
theorem sum_mul_scale {ι : Type} (s : Finset ι) (f : ι → EReal) : (∑ i ∈ s, f i) * scale = ∑ i ∈ s, f i * scale := by
  classical
  induction s using Finset.induction_on with
  | empty => simp
  | insert a s h ih =>
    rw [Finset.sum_insert h, Finset.sum_insert h, EReal.right_distrib_of_nonneg_of_ne_top scale_nonneg scale_ne_top, ih]

/-! ## Device `c`'s columns -/

/-- Column `n` of block `c`. -/
def col (c : Fin 4) (n : Fin 256) : Fin 1024 := ⟨c.val * 256 + n.val, by omega⟩

/-- Every column is one of a block's. -/
theorem sum_cols (f : Fin 1024 → EReal) : ∑ n : Fin 1024, f n = ∑ c : Fin 4, ∑ n : Fin 256, f (col c n) := by
  rw [← Fintype.sum_prod_type' (fun c n => f (col c n))]
  refine (Fintype.sum_equiv (finProdFinEquiv (m := 4) (n := 256)) _ _ fun p => ?_).symm
  refine congrArg f (Fin.ext ?_)
  show p.1.val * 256 + p.2.val = p.2.val + 256 * p.1.val
  omega

/-- Column `n` of block `c` of an array cut along its columns is the whole array's column `col c n`. -/
theorem cols_apply (v : Vec Ideal ⟨2, ![512, 1024]⟩ .f32) (c : Fin 4) (k : Fin 512) (n : Fin 256) :
    Layout.block ⟨2, ![512, 256]⟩ ⟨2, ![512, 1024]⟩ 1 4 c v (by decide) (ix2 k n) = v (ix2 k (col c n)) := by
  rw [Layout.block_apply]
  refine congrArg v (funext fun a => Fin.ext ?_)
  fin_cases a <;> rfl

/-- Row `n` of block `c` of an array cut along its rows is the whole array's row `col c n`. -/
theorem rows_apply (v : Vec Ideal ⟨2, ![1024, 512]⟩ .f32) (c : Fin 4) (n : Fin 256) (o : Fin 512) :
    Layout.block ⟨2, ![256, 512]⟩ ⟨2, ![1024, 512]⟩ 0 4 c v (by decide) (ix2 n o) = v (ix2 (col c n) o) := by
  rw [Layout.block_apply]
  refine congrArg v (funext fun a => Fin.ext ?_)
  fin_cases a <;> rfl

/-! ## One device's part of the reference -/

section

variable (m : (ℓ : Loc Cert.KernelIdeal.nD Cert.KernelIdeal.τ Cert.KernelIdeal.sig) → Buf (Elt Ideal) ℓ) (c : Dev Cert.KernelIdeal.nD)
variable (a0 : Vec Ideal Cert.ReferenceIdeal.S2x128x512 .f32) (a1 : Vec Ideal Cert.ReferenceIdeal.S512x1024 .f32)
  (a2 a3 : Vec Ideal Cert.ReferenceIdeal.S2x128x16x64 .f32) (a4 : Vec Ideal Cert.ReferenceIdeal.S1024x512 .f32)

/-- Device `c`'s arguments are its parts of the whole arrays. -/
structure Holds : Prop where
  x : ∀ b i k, (inputs m c).x (ix2 ⟨128 * b.val + i.val, by omega⟩ k) = a0 (ix3 (n0 := 2) (n1 := 128) b i k)
  w : ∀ k n, (inputs m c).w (ix2 k n) = a1 (ix2 k (col c n))
  k : ∀ b h j d, (inputs m c).k (ix4 b h j d) = a2 (ix4 b j (head c h) d)
  v : ∀ b h j d, (inputs m c).v (ix4 b h j d) = a3 (ix4 b j (head c h) d)
  o : ∀ n o, (inputs m c).o (ix2 n o) = a4 (ix2 (col c n) o)

/-- The reference's output, its columns grouped by device. -/
theorem wholeOut_cols (b : Fin 2) (i : Fin 128) (o : Fin 512) :
    wholeOut a0 a1 a2 a3 a4 b i o = ∑ d : Fin 4, ∑ n : Fin 256,
      wholeCtx a0 a1 a2 a3 b ⟨(col d n).val / 64, by omega⟩ i ⟨(col d n).val % 64, by omega⟩ * a4 (ix2 (col d n) o) :=
  sum_cols fun n => wholeCtx a0 a1 a2 a3 b ⟨n.val / 64, by omega⟩ i ⟨n.val % 64, by omega⟩ * a4 (ix2 n o)

variable {m c a0 a1 a2 a3 a4}

/-- A device's queries are the scaled queries of its columns. -/
theorem Holds.query (H : Holds m c a0 a1 a2 a3 a4) (b : Fin 2) (i : Fin 128) (n : Fin 256) :
    localQuery (inputs m c) b i n = wholeQuery a0 a1 b i (col c n) * scale := by
  unfold localQuery wholeQuery
  simp only [H.x, H.w]

/-- A device's scores are those of its four heads, wherever the scale is applied. -/
theorem Holds.score (H : Holds m c a0 a1 a2 a3 a4) (b : Fin 2) (h : Fin 4) (i j : Fin 128) :
    localScore (inputs m c) b h i j = wholeScore a0 a1 a2 b (head c h) i j := by
  unfold localScore wholeScore
  rw [sum_mul_scale]
  refine Finset.sum_congr rfl fun d _ => ?_
  rw [H.query, H.k, mul_right_comm]
  have e : col c ⟨64 * h.val + d.val, by omega⟩ = ⟨(head c h).val * 64 + d.val, by omega⟩ :=
    Fin.ext (by show c.val * 256 + (64 * h.val + d.val) = (4 * c.val + h.val) * 64 + d.val; omega)
  rw [e]

/-- A device's contexts are those of its four heads. -/
theorem Holds.ctx (H : Holds m c a0 a1 a2 a3 a4) (b : Fin 2) (h : Fin 4) (i : Fin 128) (d : Fin 64) :
    localCtx (inputs m c) b h i d = wholeCtx a0 a1 a2 a3 b (head c h) i d := by
  unfold localCtx wholeCtx
  refine Finset.sum_congr rfl fun j _ => ?_
  rw [H.v, mul_comm, show localScore (inputs m c) b h i = wholeScore a0 a1 a2 b (head c h) i from funext (H.score b h i)]

/-- A device's partial result is its columns' part of the output projection. -/
theorem Holds.out (H : Holds m c a0 a1 a2 a3 a4) (b : Fin 2) (i : Fin 128) (o : Fin 512) :
    localOut (inputs m c) b i o = ∑ n : Fin 256,
      wholeCtx a0 a1 a2 a3 b ⟨(col c n).val / 64, by omega⟩ i ⟨(col c n).val % 64, by omega⟩ * a4 (ix2 (col c n) o) := by
  unfold localOut
  refine Finset.sum_congr rfl fun n _ => ?_
  have e1 : head c ⟨n.val / 64, by omega⟩ = ⟨(col c n).val / 64, by omega⟩ :=
    Fin.ext (by show 4 * c.val + n.val / 64 = (c.val * 256 + n.val) / 64; omega)
  have e2 : (⟨n.val % 64, by omega⟩ : Fin 64) = ⟨(col c n).val % 64, by omega⟩ :=
    Fin.ext (by show n.val % 64 = (c.val * 256 + n.val) % 64; omega)
  rw [H.ctx, H.o, e1, e2]

end

/-! ## The claim -/

/-- Over the extended reals the kernel leaves the reference's result on every device. -/
theorem algebraic : Cert.algebraic_KernelIdeal_ReferenceIdeal := by
  intro m g m' g' _ hargs
  have H : ∀ c : Dev Cert.KernelIdeal.nD, Holds m c
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    intro c
    obtain ⟨h0, h1, h2, h3, h4⟩ := hargs c
    exact
      { x := fun b i k => (x_apply m c b i k).trans (congrFun h0 _)
        w := fun k n => (congrFun ((w_eq m c).trans h1) _).trans (cols_apply _ c k n)
        k := fun b h j d => (k_apply m c b h j d).trans (congrFun h2 _)
        v := fun b h j d => (v_apply m c b h j d).trans (congrFun h3 _)
        o := fun n o => (congrFun ((o_eq m c).trans h4) _).trans (rows_apply _ c n o) }
  have same : ∀ c, result m c = Cert.ReferenceIdeal.Value.res_main_v34 m' 0 := by
    intro c
    funext j
    have hj : j = ix3 (n0 := 2) (n1 := 128) (n2 := 512) (j 0) (j 1) (j 2) := by
      funext a; fin_cases a <;> rfl
    rw [hj]
    refine (result_apply m c (j 0) (j 1) (j 2)).trans (Eq.trans ?_ (reference_apply m' 0 (j 0) (j 1) (j 2)).symm)
    refine Eq.trans (Finset.sum_congr rfl fun d _ => (H d).out (j 0) (j 1) (j 2)) ?_
    exact (wholeOut_cols _ _ _ _ _ (j 0) (j 1) (j 2)).symm
  refine ⟨Cert.ReferenceIdeal.Value.res_main_v34 m' 0, ?_, ?_⟩
  · refine (θ_run Cert.KernelIdeal.defs _ _).mono (fun r h c => ?_) (run_main (F := Ideal) m g)
    have hc := h.1 c
    exact ⟨hc.2.trans (same c), hc.1⟩
  · exact (θ_run Cert.ReferenceIdeal.defs _ _).mono (fun r h => h 0) (Cert.ReferenceIdeal.Value.run (F := Ideal) m' g')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.algebraic⟩

end Cert.Proof

end
